-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclipped_KernelIdeal [hPre_unclipped_KernelIdeal : Cert.Pre_unclipped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclipped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclipped_ReferenceIdeal [hPre_unclipped_ReferenceIdeal : Cert.Pre_unclipped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclipped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unclipped_KernelIdeal [hKernelIdeal : Cert.KernelIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclipped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unclipped_ReferenceIdeal [hReferenceIdeal : Cert.ReferenceIdeal.Facts] [hPre_unclipped_ReferenceIdeal : Cert.Pre_unclipped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclipped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unclipped_KernelIdeal [hKernelIdeal : Cert.KernelIdeal.Facts] [hReferenceIdeal : Cert.ReferenceIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclipped_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unclipped_KernelIdeal : Cert.Pre_unclipped_KernelIdeal.Facts) (hPre_unclipped_ReferenceIdeal : Cert.Pre_unclipped_ReferenceIdeal.Facts),
    quiescent_Kernel (hKernel := hKernel)
    ∧ quiescent_KernelIdeal (hKernelIdeal := hKernelIdeal)
    ∧ quiescent_KernelIdeal_pre_unclipped_KernelIdeal (hKernelIdeal := hKernelIdeal) (hPre_unclipped_KernelIdeal := hPre_unclipped_KernelIdeal)
    ∧ quiescent_ReferenceIdeal (hReferenceIdeal := hReferenceIdeal)
    ∧ quiescent_ReferenceIdeal_pre_unclipped_ReferenceIdeal (hReferenceIdeal := hReferenceIdeal) (hPre_unclipped_ReferenceIdeal := hPre_unclipped_ReferenceIdeal)
    ∧ preserves_Kernel_KernelIdeal
    ∧ algebraic_KernelIdeal_ReferenceIdeal_pre_unclipped_KernelIdeal (hKernelIdeal := hKernelIdeal) (hReferenceIdeal := hReferenceIdeal) (hPre_unclipped_KernelIdeal := hPre_unclipped_KernelIdeal)
-- ==== Pre_unclipped_KernelIdeal.lean ====
abbrev S64x1024 : Shape := ⟨2, ![64, 1024]⟩
abbrev S1024x1024 : Shape := ⟨2, ![1024, 1024]⟩
abbrev S_ : Shape := ⟨0, ![]⟩

class Facts : Prop where
  bitsLt_bf16_f32 : FTy.bits .bf16 < FTy.bits .f32
  bcast_S_S64x1024 : S_.BroadcastsInDim S64x1024 (![] : Fin 0 → Fin S64x1024.rank)
  dot_S64x1024_S1024x1024_S64x1024_1_0_0_1_n_n_wf : DotDims.WF S64x1024 S1024x1024 S64x1024 [1] [0] [0] [1] [] []

variable [Facts]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def fn {F : FTy → Type} [FloatOps F] (main_arg0 : FVec F S64x1024 .bf16) (main_arg1 : FVec F S1024x1024 .bf16) : IVec S64x1024 1 :=
  let main_v0 : FVec F S64x1024 .f32 := (extf .f32 · bitsLt_bf16_f32) main_arg0
  let main_v1 : FVec F S1024x1024 .f32 := (extf .f32 · bitsLt_bf16_f32) main_arg1
  let main_v2 : FVec F S64x1024 .f32 := (fun l r => Host.dotGeneral dot_S64x1024_S1024x1024_S64x1024_1_0_0_1_n_n none l r) main_v0 main_v1
  let main_cst : FVec F S_ .f32 := constant S_ .f32 0xC2700000#32
  let main_v3 : FVec F S64x1024 .f32 := broadcastInDim S64x1024 ![] bcast_S_S64x1024 main_cst
  let main_v4 : IVec S64x1024 1 := cmpf .oge main_v2 main_v3
  let main_cst_0 : FVec F S_ .f32 := constant S_ .f32 0x42700000#32
  let main_v5 : FVec F S64x1024 .f32 := broadcastInDim S64x1024 ![] bcast_S_S64x1024 main_cst_0
  let main_v6 : IVec S64x1024 1 := cmpf .ole main_v2 main_v5
  let main_v7 : IVec S64x1024 1 := andi main_v4 main_v6
  main_v7
-- ==== Pre_unclipped_ReferenceIdeal.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S1024x1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := (fun l r => Host.dotGeneral dot_S1024x1024_S1024x1024_S1024x1024_1_0_0_1_n_n none l r) main_v0 main_v1
  let main_cst : FVec F S_ .f32 := constant S_ .f32 0xC2700000#32
  let main_v3 : FVec F S1024x1024 .f32 := broadcastInDim S1024x1024 ![] bcast_S_S1024x1024 main_cst
  let main_v4 : IVec S1024x1024 1 := cmpf .oge main_v2 main_v3
  let main_cst_0 : FVec F S_ .f32 := constant S_ .f32 0x42700000#32
  let main_v5 : FVec F S1024x1024 .f32 := broadcastInDim S1024x1024 ![] bcast_S_S1024x1024 main_cst_0
  let main_v6 : IVec S1024x1024 1 := cmpf .ole main_v2 main_v5
  let main_v7 : IVec S1024x1024 1 := andi main_v4 main_v6
  main_v7
-- ==== Kernel.lean ====
abbrev S64x1024 : Shape := ⟨2, ![64, 1024]⟩
abbrev S1024x1024 : Shape := ⟨2, ![1024, 1024]⟩
abbrev S1024x64 : Shape := ⟨2, ![1024, 64]⟩
abbrev S16x64x64 : Shape := ⟨3, ![16, 64, 64]⟩
abbrev S16 : Shape := ⟨1, ![16]⟩
abbrev S_ : Shape := ⟨0, ![]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S64x1024, .bf16⟩
  | .hbm, ⟨1, _⟩ => ⟨S1024x1024, .bf16⟩
  | .hbm, ⟨2, _⟩ => ⟨S1024x64, .bf16⟩
  | .local _ .vmem, ⟨0, _⟩ => ⟨S64x1024, .bf16⟩
  | .local _ .vmem, ⟨1, _⟩ => ⟨S1024x1024, .bf16⟩
  | .local _ .vmem, ⟨2, _⟩ => ⟨S1024x64, .bf16⟩
  | .local _ .vmem, ⟨3, _⟩ => ⟨S16x64x64, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v136 : Index := Scalar.indexCast v2
  let c0_97 : Index := 0#32
  let c0_98 : Index := 0#32
  ![v136.toNat, 0, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v139 : BitVec 32 := Scalar.muli v2 c64_i32
  let v140 : Index := Scalar.indexCast v139
  let c0_99 : Index := 0#32
  ![v140.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_102 : BitVec 32 := 64#32
  let v144 : BitVec 32 := Scalar.muli v2 c64_i32_102
  let c0_i32_106 : BitVec 32 := 0#32
  ![v144.toNat, 0]
def k0_off5 (d0 : Dev nD) (c1_i32_100 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v142 : BitVec 32 := Scalar.addi v2 c1_i32_100
  let c16_i32_101 : BitVec 32 := 16#32
  let v143 : BitVec 32 := Scalar.remsi v142 c16_i32_101
  let c0_i32_107 : BitVec 32 := 0#32
  let c0_i32_108 : BitVec 32 := 0#32
  ![v143.toNat, 0, 0]
def k0_dev16 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_100 : BitVec 32 := 1#32
  let v142 : BitVec 32 := Scalar.addi v2 c1_i32_100
  let c16_i32_101 : BitVec 32 := 16#32
  let v143 : BitVec 32 := Scalar.remsi v142 c16_i32_101
  let c1_i32_104 : BitVec 32 := 1#32
  let v145 : BitVec 32 := Scalar.muli v143 c1_i32_104
  let v146 : BitVec 32 := Scalar.addi c0_i32_105 v145
  v146.toNat
def k0_dev17 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_109 : BitVec 32 := 2#32
  let v154 : BitVec 32 := Scalar.addi v2 c2_i32_109
  let c16_i32_110 : BitVec 32 := 16#32
  let v155 : BitVec 32 := Scalar.remsi v154 c16_i32_110
  let c1_i32_113 : BitVec 32 := 1#32
  let v157 : BitVec 32 := Scalar.muli v155 c1_i32_113
  let v158 : BitVec 32 := Scalar.addi c0_i32_114 v157
  v158.toNat
def k0_dev18 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_118 : BitVec 32 := 3#32
  let v166 : BitVec 32 := Scalar.addi v2 c3_i32_118
  let c16_i32_119 : BitVec 32 := 16#32
  let v167 : BitVec 32 := Scalar.remsi v166 c16_i32_119
  let c1_i32_122 : BitVec 32 := 1#32
  let v169 : BitVec 32 := Scalar.muli v167 c1_i32_122
  let v170 : BitVec 32 := Scalar.addi c0_i32_123 v169
  v170.toNat
def k0_dev19 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_127 : BitVec 32 := 4#32
  let v178 : BitVec 32 := Scalar.addi v2 c4_i32_127
  let c16_i32_128 : BitVec 32 := 16#32
  let v179 : BitVec 32 := Scalar.remsi v178 c16_i32_128
  let c1_i32_131 : BitVec 32 := 1#32
  let v181 : BitVec 32 := Scalar.muli v179 c1_i32_131
  let v182 : BitVec 32 := Scalar.addi c0_i32_132 v181
  v182.toNat
def k0_dev20 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_136 : BitVec 32 := 5#32
  let v190 : BitVec 32 := Scalar.addi v2 c5_i32_136
  let c16_i32_137 : BitVec 32 := 16#32
  let v191 : BitVec 32 := Scalar.remsi v190 c16_i32_137
  let c1_i32_140 : BitVec 32 := 1#32
  let v193 : BitVec 32 := Scalar.muli v191 c1_i32_140
  let v194 : BitVec 32 := Scalar.addi c0_i32_141 v193
  v194.toNat
def k0_dev21 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_145 : BitVec 32 := 6#32
  let v202 : BitVec 32 := Scalar.addi v2 c6_i32_145
  let c16_i32_146 : BitVec 32 := 16#32
  let v203 : BitVec 32 := Scalar.remsi v202 c16_i32_146
  let c1_i32_149 : BitVec 32 := 1#32
  let v205 : BitVec 32 := Scalar.muli v203 c1_i32_149
  let v206 : BitVec 32 := Scalar.addi c0_i32_150 v205
  v206.toNat
def k0_dev22 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_154 : BitVec 32 := 7#32
  let v214 : BitVec 32 := Scalar.addi v2 c7_i32_154
  let c16_i32_155 : BitVec 32 := 16#32
  let v215 : BitVec 32 := Scalar.remsi v214 c16_i32_155
  let c1_i32_158 : BitVec 32 := 1#32
  let v217 : BitVec 32 := Scalar.muli v215 c1_i32_158
  let v218 : BitVec 32 := Scalar.addi c0_i32_159 v217
  v218.toNat
def k0_dev23 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_163 : BitVec 32 := 8#32
  let v226 : BitVec 32 := Scalar.addi v2 c8_i32_163
  let c16_i32_164 : BitVec 32 := 16#32
  let v227 : BitVec 32 := Scalar.remsi v226 c16_i32_164
  let c1_i32_167 : BitVec 32 := 1#32
  let v229 : BitVec 32 := Scalar.muli v227 c1_i32_167
  let v230 : BitVec 32 := Scalar.addi c0_i32_168 v229
  v230.toNat
def k0_dev24 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_172 : BitVec 32 := 9#32
  let v238 : BitVec 32 := Scalar.addi v2 c9_i32_172
  let c16_i32_173 : BitVec 32 := 16#32
  let v239 : BitVec 32 := Scalar.remsi v238 c16_i32_173
  let c1_i32_176 : BitVec 32 := 1#32
  let v241 : BitVec 32 := Scalar.muli v239 c1_i32_176
  let v242 : BitVec 32 := Scalar.addi c0_i32_177 v241
  v242.toNat
def k0_dev25 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v250 : BitVec 32 := Scalar.addi v2 c10_i32_181
  let c16_i32_182 : BitVec 32 := 16#32
  let v251 : BitVec 32 := Scalar.remsi v250 c16_i32_182
  let c1_i32_185 : BitVec 32 := 1#32
  let v253 : BitVec 32 := Scalar.muli v251 c1_i32_185
  let v254 : BitVec 32 := Scalar.addi c0_i32_186 v253
  v254.toNat
def k0_dev26 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_190 : BitVec 32 := 11#32
  let v262 : BitVec 32 := Scalar.addi v2 c11_i32_190
  let c16_i32_191 : BitVec 32 := 16#32
  let v263 : BitVec 32 := Scalar.remsi v262 c16_i32_191
  let c1_i32_194 : BitVec 32 := 1#32
  let v265 : BitVec 32 := Scalar.muli v263 c1_i32_194
  let v266 : BitVec 32 := Scalar.addi c0_i32_195 v265
  v266.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_199 : BitVec 32 := 12#32
  let v274 : BitVec 32 := Scalar.addi v2 c12_i32_199
  let c16_i32_200 : BitVec 32 := 16#32
  let v275 : BitVec 32 := Scalar.remsi v274 c16_i32_200
  let c1_i32_203 : BitVec 32 := 1#32
  let v277 : BitVec 32 := Scalar.muli v275 c1_i32_203
  let v278 : BitVec 32 := Scalar.addi c0_i32_204 v277
  v278.toNat
def k0_dev28 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_208 : BitVec 32 := 13#32
  let v286 : BitVec 32 := Scalar.addi v2 c13_i32_208
  let c16_i32_209 : BitVec 32 := 16#32
  let v287 : BitVec 32 := Scalar.remsi v286 c16_i32_209
  let c1_i32_212 : BitVec 32 := 1#32
  let v289 : BitVec 32 := Scalar.muli v287 c1_i32_212
  let v290 : BitVec 32 := Scalar.addi c0_i32_213 v289
  v290.toNat
def k0_dev29 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_217 : BitVec 32 := 14#32
  let v298 : BitVec 32 := Scalar.addi v2 c14_i32_217
  let c16_i32_218 : BitVec 32 := 16#32
  let v299 : BitVec 32 := Scalar.remsi v298 c16_i32_218
  let c1_i32_221 : BitVec 32 := 1#32
  let v301 : BitVec 32 := Scalar.muli v299 c1_i32_221
  let v302 : BitVec 32 := Scalar.addi c0_i32_222 v301
  v302.toNat
def k0_dev30 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_226 : BitVec 32 := 15#32
  let v310 : BitVec 32 := Scalar.addi v2 c15_i32_226
  let c16_i32_227 : BitVec 32 := 16#32
  let v311 : BitVec 32 := Scalar.remsi v310 c16_i32_227
  let c1_i32_230 : BitVec 32 := 1#32
  let v313 : BitVec 32 := Scalar.muli v311 c1_i32_230
  let v314 : BitVec 32 := Scalar.addi c0_i32_231 v313
  v314.toNat
def k0_off6 (d0 : Dev nD) (c1_i32_235 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v322 : BitVec 32 := Scalar.subi v2 c1_i32_235
  let c16_i32_236 : BitVec 32 := 16#32
  let v323 : BitVec 32 := Scalar.addi v322 c16_i32_236
  let c16_i32_237 : BitVec 32 := 16#32
  let v324 : BitVec 32 := Scalar.remsi v323 c16_i32_237
  ![v324.toNat]
def k0_off7 (d0 : Dev nD) (c1_i32_235 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v322 : BitVec 32 := Scalar.subi v2 c1_i32_235
  let c16_i32_236 : BitVec 32 := 16#32
  let v323 : BitVec 32 := Scalar.addi v322 c16_i32_236
  let c16_i32_237 : BitVec 32 := 16#32
  let v324 : BitVec 32 := Scalar.remsi v323 c16_i32_237
  let c64_i32_238 : BitVec 32 := 64#32
  let v325 : BitVec 32 := Scalar.muli v324 c64_i32_238
  let c0_i32_243 : BitVec 32 := 0#32
  ![v325.toNat, 0]
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.KernelIdealProtocol.lean ====
/-
# The exchange as a protocol

Sixteen devices. Device `c` computes its rows `Y c` (64 × 1024), cuts them into sixteen 64 × 64 slices and sends
slice `j` to device `j`, which keeps it as rows `64 c … 64 c + 63` of its result. Before any transfer every device
signals every other one on the barrier semaphore, and waits for fifteen signals itself.

The semaphores, all used for one round:

* the barrier semaphore of device `c`: fifteen signals of one unit, one from each other device `p`; `p`'s signal
  hands `c` rows `64 c …` of `p`'s result, which `c` is going to overwrite;
* the send semaphore `d` (1 ≤ d ≤ 15) of device `c`: one transfer's worth, paid when `c`'s transfer to `c + d` has read
  its source; it hands back slice `c + d` of `c`'s scratch buffer;
* the receive semaphore `i` (i ≠ c) of device `c`: one transfer's worth, paid when the slice of device `i` has landed;
  it hands `c` rows `64 i …` of its own result, holding what `i` computed.

Send semaphore 0 and receive semaphore `c` are not used.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's with duties named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Going around the devices -/

/-- The device `r + 1` after `c`. -/
def toD (c : Dev nD) (r : Fin 15) : Dev nD := ⟨(c.val + r.val + 1) % 16, Nat.mod_lt _ (by decide)⟩
/-- The device `r + 1` before `c`. -/
def frD (c : Dev nD) (r : Fin 15) : Dev nD := ⟨(c.val + 15 - r.val) % 16, Nat.mod_lt _ (by decide)⟩
/-- A device's number as an index of a semaphore array or of a slice. -/
abbrev ixD (c : Dev nD) : Fin 16 := c
/-- The send semaphore that the `r`-th transfer uses. -/
abbrev sIx (r : Fin 15) : Fin 16 := r.succ

theorem frD_toD (c : Dev nD) (r : Fin 15) : frD (toD c r) r = c := by revert c r; decide +kernel
theorem toD_frD (c : Dev nD) (r : Fin 15) : toD (frD c r) r = c := by revert c r; decide +kernel
theorem toD_ne (c : Dev nD) (r : Fin 15) : toD c r ≠ c := by revert c r; decide +kernel
theorem frD_ne (c : Dev nD) (r : Fin 15) : frD c r ≠ c := by revert c r; decide +kernel
theorem toD_inj (c : Dev nD) : Function.Injective (toD c) := by revert c; decide +kernel
theorem frD_inj (c : Dev nD) : Function.Injective (frD c) := by revert c; decide +kernel
theorem image_toD (c : Dev nD) : Finset.univ.image (toD c) = Finset.univ.erase c := by revert c; decide +kernel
theorem image_frD (c : Dev nD) : Finset.univ.image (frD c) = Finset.univ.erase c := by revert c; decide +kernel

/-- Over all devices but `c` is over the fifteen devices after `c`. -/
theorem bigSep_toD {M : Type} [URA M] (c : Dev nD) (Φ : Dev nD → sProp M) :
    bigSep (Finset.univ.erase c) Φ = bigSep Finset.univ fun r : Fin 15 => Φ (toD c r) := by
  rw [← image_toD, bigSep_image_of_injOn (toD_inj c).injOn]
/-- Over all devices but `c` is over the fifteen devices before `c`. -/
theorem bigSep_frD {M : Type} [URA M] (c : Dev nD) (Φ : Dev nD → sProp M) :
    bigSep (Finset.univ.erase c) Φ = bigSep Finset.univ fun r : Fin 15 => Φ (frD c r) := by
  rw [← image_frD, bigSep_image_of_injOn (frD_inj c).injOn]

/-! ## Memrefs, semaphores, cells -/

abbrev xM : Memref sig .tc .vmem S64x1024 .bf16 := Memref.whole cc0_stg0_0
abbrev wM : Memref sig .tc .vmem S1024x1024 .bf16 := Memref.whole cc0_stg1_0
abbrev oM : Memref sig .tc .vmem S1024x64 .bf16 := Memref.whole cc0_stg2_0
abbrev scM : Memref sig .tc .vmem S16x64x64 .bf16 := Memref.whole cc0_scratch0

abbrev barS : Sem sig := (SemArray.scalar (sig.barrier 0 rfl) : Sems sig S_).sem
/-- Send semaphore `d`. -/
def sendQ (d : Fin 16) : DmaSem sig := ⟨3 + d.val, by have := d.isLt; show _ < 35; omega⟩
/-- Receive semaphore `i`. -/
def recvQ (i : Fin 16) : DmaSem sig := ⟨19 + i.val, by have := i.isLt; show _ < 35; omega⟩

abbrev barCell (c : Dev nD) : GSem nD τ sig := ((c : Thread nD τ), .reg barS)
abbrev sendCell (c : Dev nD) (d : Fin 16) : GSem nD τ sig := ((c : Thread nD τ), .dma (sendQ d))
abbrev recvCell (c : Dev nD) (i : Fin 16) : GSem nD τ sig := ((c : Thread nD τ), .dma (recvQ i))

/-- The semaphores the kernel owns: sixteen to send on, sixteen to receive on; -/
abbrev osem : Fin 16 ⊕ Fin 16 → SemLoc sig := fun | .inl d => .dma (sendQ d) | .inr i => .dma (recvQ i)
/-- and with the barrier semaphore all those of the exchange. -/
abbrev csem : Unit ⊕ (Fin 16 ⊕ Fin 16) → SemLoc sig := fun | .inl _ => .reg barS | .inr k => osem k
/-- Which cells of a device the exchange uses. -/
abbrev CIx : Type := Unit ⊕ (Fin 16 ⊕ Fin 16)
abbrev kcell (ck : Dev nD × CIx) : GSem nD τ sig := ((ck.1 : Thread nD τ), csem ck.2)

/-- What a transfer of one 64 × 64 slice credits. -/
def N : ℕ := ((oM.slice (Rect.unit (s := S1024x64) ![0, 0] S64x64.size (by decide)) (fun _ => rfl)).view).dmaCredit
theorem N_pos : 0 < N := View.dmaCredit_pos _ (by decide)

/-! ## What a semaphore is for -/

/-- The barrier, a send, a receive, or none of these (the pipeline's staging). -/
inductive Role where
  | bar | send (d : Fin 16) | recv (i : Fin 16) | other
deriving DecidableEq

/-- The role of each semaphore. -/
def role : SemLoc sig → Role
  | .reg _ => .bar
  | .dma q => if q.val < 3 then .other
      else if h : q.val < 19 then .send ⟨q.val - 3, by omega⟩
      else .recv ⟨(q.val - 19) % 16, Nat.mod_lt _ (by decide)⟩

theorem role_bar : role (.reg barS) = .bar := rfl
theorem role_send (d : Fin 16) : role (.dma (sendQ d)) = .send d := by revert d; decide +kernel
theorem role_recv (i : Fin 16) : role (.dma (recvQ i)) = .recv i := by revert i; decide +kernel

/-! ## Contents -/

/-- Device `c`'s block of `x` and its copy of `w`, as staged. -/
def xstg (c : Dev nD) : (cc0_stg0_0 : Ref sig .tc).ty.Contents (Elt F) :=
  (win0_0.blk t0_0).view.read (Elt F) ((s₀ m ρ).mem ((c : Thread nD τ).loc main_arg0))
def wstg (c : Dev nD) : (cc0_stg1_0 : Ref sig .tc).ty.Contents (Elt F) :=
  (win0_1.blk t0_0).view.read (Elt F) ((s₀ m ρ).mem ((c : Thread nD τ).loc main_arg1))

/-- The rows device `c` computes. -/
def rowsAt (c : Dev nD) : S64x1024.Idx → Elt F .bf16 := k0_pay1 (xstg m ρ c) (wstg m ρ c)

/-- The rows cut into sixteen slices along the columns. -/
def cutOf {α : Type} (y : S64x1024.Idx → α) : S16x64x64.Idx → α := fun i =>
  y fun | ⟨0, _⟩ => ⟨(i 1).val, (i 1).isLt⟩
        | ⟨1, _⟩ => ⟨64 * (i 0).val + (i 2).val, by
            have h0 : (i 0).val < 16 := (i 0).isLt; have h2 : (i 2).val < 64 := (i 2).isLt
            show _ < 1024; omega⟩
/-- Slices number `c` of all devices' rows stacked. -/
def stackOf {α : Type} (y : Fin 16 → S64x1024.Idx → α) (c : Fin 16) : S1024x64.Idx → α := fun i =>
  y ⟨(i 0).val / 64, by have h0 : (i 0).val < 1024 := (i 0).isLt; omega⟩
    fun | ⟨0, _⟩ => ⟨(i 0).val % 64, Nat.mod_lt _ (by decide)⟩
        | ⟨1, _⟩ => ⟨64 * c.val + (i 1).val, by
            have h0 : c.val < 16 := c.isLt; have h2 : (i 1).val < 64 := (i 1).isLt
            show _ < 1024; omega⟩

/-- What device `c`'s scratch buffer holds once all slices are stored. -/
def scrAt (c : Dev nD) : Buf (Elt F) ((c : Thread nD τ).loc cc0_scratch0) := cutOf (rowsAt m ρ c)
/-- What device `c`'s result holds once all slices have landed. -/
def outAt (c : Dev nD) : Buf (Elt F) ((c : Thread nD τ).loc cc0_stg2_0) := stackOf (rowsAt m ρ) c

/-! ## Blocks -/

/-- Rows `64 i …` of the result buffer. -/
def oRow (i : Fin 16) : Finset ((cc0_stg2_0 : Ref sig .tc).ty.Idx) := Finset.univ.filter fun x => ((x : S1024x64.Idx) 0).val / 64 = i.val
/-- Slice `j` of the scratch buffer. -/
def sRow (j : Fin 16) : Finset ((cc0_scratch0 : Ref sig .tc).ty.Idx) := Finset.univ.filter fun x => ((x : S16x64x64.Idx) 0).val = j.val

/-- Device `c` holding rows `64 i …` of its result buffer at contents `f`. -/
def oBlk (c : Dev nD) (i : Fin 16) (f : Buf (Elt F) ((c : Thread nD τ).loc cc0_stg2_0)) : sProp 𝕄 :=
  ((c : Thread nD τ).loc cc0_stg2_0) ↦[oRow i]{fullShare} f
/-- Device `c` holding slice `j` of its scratch buffer at contents `f`. -/
def sBlk (c : Dev nD) (j : Fin 16) (f : Buf (Elt F) ((c : Thread nD τ).loc cc0_scratch0)) : sProp 𝕄 :=
  ((c : Thread nD τ).loc cc0_scratch0) ↦[sRow j]{fullShare} f

instance oBlk_storable (c : Dev nD) (i f) : BI.Storable (upEmb : UEmb _ 𝕄) (oBlk (F := F) c i f) := by unfold oBlk; infer_instance
instance sBlk_storable (c : Dev nD) (i f) : BI.Storable (upEmb : UEmb _ 𝕄) (sBlk (F := F) c i f) := by unfold sBlk; infer_instance

/-! ## The schedule -/

/-- Who pays which semaphore of device `c`. -/
def payers (c : Dev nD) : Role → Finset (Dev nD)
  | .bar => Finset.univ.erase c
  | .send d => if d = 0 then ∅ else {c}
  | .recv i => if i = ixD c then ∅ else {i}
  | .other => ∅

/-- The device whose slice the send semaphore `d` of `c` is about. -/
def target (c : Dev nD) (d : Fin 16) : Dev nD := ⟨(c.val + d.val) % 16, Nat.mod_lt _ (by decide)⟩

/-- What device `p` hands to device `c` with its payment. -/
def handed (c p : Dev nD) : Role → sProp 𝕄
  | .bar => iprop(∃ f, oBlk p c f)
  | .send d => sBlk c (target c d) (scrAt m ρ c)
  | .recv i => oBlk c i (outAt m ρ c)
  | .other => iprop(emp)

/-- The schedule: everything happens in round 0. -/
def ringRd : Rounds.Schedule (GSem nD τ sig) (Dev nD) 𝕄 where
  duties g r := if r = 0 ∧ g.1.2 = .tc then payers g.1.1 (role g.2) else ∅
  unitless _ := False
  amount g _ _ := if role g.2 = .bar then 1 else N
  payload g _ p := handed m ρ g.1.1 p (role g.2)
  amount_pos g _ _ _ := by
    by_cases h : role g.2 = .bar
    · rw [if_pos h]; exact Nat.one_pos
    · rw [if_neg h]; exact N_pos

instance ringRd_payload_storable (g : GSem nD τ sig) (r : ℕ) (p : Dev nD) :
    BI.Storable (upEmb : UEmb _ 𝕄) ((ringRd (F := F) m ρ).payload g r p) := by
  show BI.Storable upEmb (handed m ρ g.1.1 p (role g.2))
  cases role g.2 <;> (unfold handed; infer_instance)

section Sched
variable (c : Dev nD)

theorem payers_send (d : Fin 16) : payers c (.send d) = if d = 0 then ∅ else {c} := rfl
theorem payers_recv (i : Fin 16) : payers c (.recv i) = if i = ixD c then ∅ else {i} := rfl
theorem target_succ (r : Fin 15) : target c (sIx r) = toD c r := by revert c r; decide +kernel

theorem duties_bar : (ringRd (F := F) m ρ).duties (barCell c) 0 = Finset.univ.erase c := by
  dsimp only [ringRd]; rw [if_pos ⟨rfl, rfl⟩, role_bar]; rfl
theorem duties_send (r : Fin 15) : (ringRd (F := F) m ρ).duties (sendCell c (sIx r)) 0 = {c} := by
  dsimp only [ringRd]; rw [if_pos ⟨rfl, rfl⟩, role_send, payers_send, if_neg (Fin.succ_ne_zero r)]
theorem duties_recv {i : Dev nD} (h : i ≠ c) : (ringRd (F := F) m ρ).duties (recvCell c i) 0 = {i} := by
  dsimp only [ringRd]; rw [if_pos ⟨rfl, rfl⟩, role_recv, payers_recv, if_neg h]
theorem duties_later (g : GSem nD τ sig) : ∀ r, 1 ≤ r → (ringRd (F := F) m ρ).duties g r = ∅ :=
  fun r hr => by dsimp only [ringRd]; exact if_neg fun h => by omega
/-- Send semaphore 0 and receive semaphore `c` of device `c` are never paid. -/
theorem duties_send_zero : ∀ r, 0 ≤ r → (ringRd (F := F) m ρ).duties (sendCell c 0) r = ∅ := fun r _ => by
  dsimp only [ringRd]; rw [role_send, payers_send, if_pos rfl]; exact ite_self _
theorem duties_recv_self : ∀ r, 0 ≤ r → (ringRd (F := F) m ρ).duties (recvCell c c) r = ∅ := fun r _ => by
  dsimp only [ringRd]; rw [role_recv, payers_recv, if_pos rfl]; exact ite_self _

theorem amount_bar (p : Dev nD) : (ringRd (F := F) m ρ).amount (barCell c) 0 p = 1 := by
  dsimp only [ringRd]; rw [role_bar]; exact if_pos rfl
theorem amount_send (d : Fin 16) (p : Dev nD) : (ringRd (F := F) m ρ).amount (sendCell c d) 0 p = N := by
  dsimp only [ringRd]; rw [role_send]; exact if_neg (by intro h; cases h)
theorem amount_recv (i : Fin 16) (p : Dev nD) : (ringRd (F := F) m ρ).amount (recvCell c i) 0 p = N := by
  dsimp only [ringRd]; rw [role_recv]; exact if_neg (by intro h; cases h)

theorem expect_bar : (ringRd (F := F) m ρ).expect (barCell c) 0 = 15 := by
  unfold Schedule.expect Schedule.amountOf
  rw [duties_bar, Finset.sum_congr rfl fun p _ => amount_bar m ρ c p, Finset.sum_const, Finset.card_erase_of_mem (Finset.mem_univ c),
    Finset.card_univ, Fintype.card_fin, smul_eq_mul]
  rfl
theorem expect_send (r : Fin 15) : (ringRd (F := F) m ρ).expect (sendCell c (sIx r)) 0 = N := by
  unfold Schedule.expect Schedule.amountOf; rw [duties_send, Finset.sum_singleton, amount_send]
theorem expect_recv {i : Dev nD} (h : i ≠ c) : (ringRd (F := F) m ρ).expect (recvCell c i) 0 = N := by
  unfold Schedule.expect Schedule.amountOf; rw [duties_recv m ρ c h, Finset.sum_singleton, amount_recv]

theorem payload_bar (p : Dev nD) : (ringRd (F := F) m ρ).payload (barCell c) 0 p = iprop(∃ f, oBlk p c f) := by
  dsimp only [ringRd]; rw [role_bar]; rfl
theorem payload_send (r : Fin 15) (p : Dev nD) :
    (ringRd (F := F) m ρ).payload (sendCell c (sIx r)) 0 p = sBlk c (toD c r) (scrAt m ρ c) := by
  dsimp only [ringRd]; rw [role_send, ← target_succ]; rfl
theorem payload_recv (i : Fin 16) (p : Dev nD) : (ringRd (F := F) m ρ).payload (recvCell c i) 0 p = oBlk c i (outAt m ρ c) := by
  dsimp only [ringRd]; rw [role_recv]; rfl

/-- The barrier's round hands over one block of each other device's result. -/
theorem rest_bar : bigSep ((ringRd (F := F) m ρ).duties (barCell c) 0 \ ∅) (fun p => (ringRd (F := F) m ρ).payload (barCell c) 0 p)
    = bigSep Finset.univ fun r : Fin 15 => iprop(∃ f, oBlk (toD c r) c f) := by
  rw [Finset.sdiff_empty, duties_bar, bigSep_toD]
  exact bigSep_congr fun r _ => payload_bar m ρ c _
theorem rest_send (r : Fin 15) :
    bigSep ((ringRd (F := F) m ρ).duties (sendCell c (sIx r)) 0 \ ∅) (fun p => (ringRd (F := F) m ρ).payload (sendCell c (sIx r)) 0 p)
      = sBlk c (toD c r) (scrAt m ρ c) := by
  rw [Finset.sdiff_empty, duties_send, bigSep_singleton, payload_send]
theorem rest_recv {i : Dev nD} (h : i ≠ c) :
    bigSep ((ringRd (F := F) m ρ).duties (recvCell c i) 0 \ ∅) (fun p => (ringRd (F := F) m ρ).payload (recvCell c i) 0 p)
      = oBlk c i (outAt m ρ c) := by
  rw [Finset.sdiff_empty, duties_recv m ρ c h, bigSep_singleton, payload_recv]

end Sched

/-! ## What a device owes, and the levels -/

/-- What device `c` still owes when it has sent `a` signals and started `b` transfers. -/
def owed (c : Dev nD) (a b : ℕ) : CellTallies nD τ sig Unit :=
  (∑ r ∈ Finset.univ.filter (fun r : Fin 15 => b ≤ r.val), tallyAt (recvCell (toD c r) c) () N)
    + ∑ r ∈ Finset.univ.filter (fun r : Fin 15 => a ≤ r.val), tallyAt (barCell (toD c r)) () 1

/-- The indices from `r` on are `r` and those from `r + 1` on. -/
theorem from_succ (r : Fin 15) : Finset.univ.filter (fun s : Fin 15 => r.val ≤ s.val)
    = insert r (Finset.univ.filter fun s : Fin 15 => r.val + 1 ≤ s.val) := by
  ext s; simp only [Finset.mem_filter, Finset.mem_univ, true_and, Finset.mem_insert, Fin.ext_iff]; omega
theorem not_mem_from_succ (r : Fin 15) : r ∉ Finset.univ.filter fun s : Fin 15 => r.val + 1 ≤ s.val := by
  simp
theorem from_all : Finset.univ.filter (fun s : Fin 15 => 15 ≤ s.val) = ∅ := by decide
theorem from_zero : Finset.univ.filter (fun s : Fin 15 => 0 ≤ s.val) = Finset.univ := by decide

theorem owed_signal (c : Dev nD) (r : Fin 15) (b : ℕ) :
    owed c r.val b = owed c (r.val + 1) b + tallyAt (barCell (toD c r)) () 1 := by
  unfold owed; rw [from_succ r, Finset.sum_insert (not_mem_from_succ r), add_comm (tallyAt (barCell (toD c r)) () 1), add_assoc]
theorem owed_send (c : Dev nD) (r : Fin 15) :
    owed c 15 r.val = owed c 15 (r.val + 1) + tallyAt (recvCell (toD c r) c) () N := by
  unfold owed; rw [from_succ r, Finset.sum_insert (not_mem_from_succ r), from_all, Finset.sum_empty, add_zero, add_zero, add_comm]
theorem owed_none (c : Dev nD) : owed c 15 15 = 0 := by
  unfold owed; rw [from_all, Finset.sum_empty, Finset.sum_empty, add_zero]

def L (g : GSem nD τ sig) : Finset Unit := if g.1.2 = .tc then {()} else ∅
/-- Barrier cells at level 1, receive cells at 2, the rest at 0. -/
def lvRole : Role → ℕ
  | .bar => 1 | .recv _ => 2 | _ => 0
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl

/-- A tally summed over some indices is positive only at one of the summands' cells. -/
theorem sum_tally_pos {S : Finset (Fin 15)} {cell : Fin 15 → GSem nD τ sig} {k : ℕ} {g : GSem nD τ sig} {u : Unit}
    (h : 0 < (∑ r ∈ S, (tallyAt (cell r) () k : CellTallies nD τ sig Unit)) g u) : ∃ r, g = cell r := by
  rw [Finset.sum_apply, Finsupp.finset_sum_apply] at h
  obtain ⟨r, -, hr⟩ := Finset.exists_ne_zero_of_sum_ne_zero h.ne'
  refine ⟨r, ?_⟩
  by_contra hn
  rw [tallyAt_apply, if_neg (fun h' => hn h'.1)] at hr
  exact hr rfl

theorem owed_pos {c : Dev nD} {a b : ℕ} {g : GSem nD τ sig} {u : Unit} (h : 0 < owed c a b g u) :
    (∃ r, g = recvCell (toD c r) c) ∨ (a < 15 ∧ ∃ r, g = barCell (toD c r)) := by
  unfold owed at h
  rw [Pi.add_apply, Finsupp.add_apply] at h
  rcases Nat.eq_zero_or_pos ((∑ r ∈ Finset.univ.filter (fun r : Fin 15 => b ≤ r.val), (tallyAt (recvCell (toD c r) c) () N : CellTallies nD τ sig Unit)) g u) with h0 | h0
  · rw [h0, Nat.zero_add] at h
    refine Or.inr ⟨?_, sum_tally_pos h⟩
    by_contra ha
    have he : Finset.univ.filter (fun r : Fin 15 => a ≤ r.val) = ∅ := by
      ext s; simp only [Finset.mem_filter, Finset.mem_univ, true_and, Finset.notMem_empty, iff_false]; omega
    rw [he, Finset.sum_empty] at h
    exact Nat.lt_irrefl 0 h
  · exact Or.inl (sum_tally_pos h0)

/-- What a device owes is at levels 1 and 2, and at level 2 once all signals are sent. -/
theorem owed_level {c : Dev nD} {a b : ℕ} {g : GSem nD τ sig} {u : Unit} (h : 0 < owed c a b g u) :
    L g = {()} ∧ (if a < 15 then 0 else 1) < lv g u := by
  rcases owed_pos h with ⟨r, rfl⟩ | ⟨ha, r, rfl⟩
  · refine ⟨L_tc _ _, ?_⟩
    unfold lv; rw [role_recv]; show _ < 2; split <;> decide
  · refine ⟨L_tc _ _, ?_⟩
    unfold lv; rw [role_bar, if_pos ha]; show 0 < 1; decide

/-- Before its signals a device may wait on a staging semaphore. -/
theorem mayWait_stage (c : Dev nD) (q : DmaSem sig) (hq : role (.dma q) = .other) (O : CellTallies nD τ sig Unit) (hO : O = owed c 0 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rw [(owed_level hg).1]; exact Finset.mem_singleton_self _)
      (fun p hp => by rw [Finset.mem_singleton.mp hp]; show lv _ _ ≤ 0; unfold lv; rw [hq]; exact le_refl 0)
      (fun g u hg => by have := (owed_level hg).2; rwa [if_pos (by decide)] at this)
  · rw [MayWait_zero]; iintro -; iempintro

/-- With all signals sent a device may wait on its barrier semaphore: it owes receive cells only. -/
theorem mayWait_bar (c : Dev nD) : (levAts L lv : sProp 𝕄) ⊢ MayWait (c : Thread nD τ) (.reg barS) () (owed c 15 0) :=
  MayOwe.of_cut (L := L) (lev := lv) 1 (fun p hp => by rw [Finset.mem_singleton.mp hp, L_tc]; exact Finset.mem_singleton_self _)
    (fun g u hg => by rw [(owed_level hg).1]; exact Finset.mem_singleton_self _)
    (fun p hp => by rw [Finset.mem_singleton.mp hp]; exact le_refl 1)
    (fun g u hg => by have := (owed_level hg).2; rwa [if_neg (by decide)] at this)

end Cert.KernelIdeal.Exchange

end
-- ==== Proof.KernelIdealBlocks.lean ====
/-
# Blocks of the buffers

Which elements the kernel's slices name, what is read and written through them, and a buffer held as its blocks.
-/
module

public import proofs.«01_k».proof.Proof.KernelIdealProtocol
public import Idealize.ShloMosaic.Lib.Pipeline.Value
public import Idealize.ShloMosaic.Lib.ViewIndex
public import Idealize.ShloMosaic.Lib.Pipeline.ValueKit.Geometry

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangles -/

/-- A 64-row rectangle of the result buffer. -/
abbrev oRect (off : Fin 2 → ℕ) (inb : ∀ a, off a + S64x64.size a ≤ S1024x64.size a) : Rect S1024x64 := Rect.unit off S64x64.size inb
/-- A one-slice rectangle of the scratch buffer. -/
abbrev sRect (off : Fin 3 → ℕ) (inb : ∀ a, off a + S1x64x64.size a ≤ S16x64x64.size a) : Rect S16x64x64 := Rect.unit off S1x64x64.size inb

theorem mem_oRow {i : Fin 16} {x : S1024x64.Idx} : x ∈ oRow i ↔ (x 0).val / 64 = i.val := by
  unfold oRow; simp only [Finset.mem_filter, Finset.mem_univ, true_and]
theorem mem_sRow {j : Fin 16} {x : S16x64x64.Idx} : x ∈ sRow j ↔ (x 0).val = j.val := by
  unfold sRow; simp only [Finset.mem_filter, Finset.mem_univ, true_and]

theorem oRect_set (i : Fin 16) {off : Fin 2 → ℕ} (h : off = ![64 * i.val, 0]) (inb) : (oRect off inb).set = oRow i := by
  subst h
  ext x
  rw [mem_oRow (x := x), Rect.mem_set_unit]
  have h1 : (x 1).val < 64 := (x 1).isLt
  constructor
  · intro h
    have h0 : 64 * i.val ≤ (x 0).val ∧ (x 0).val < 64 * i.val + 64 := h 0
    omega
  · intro h a
    match a with
    | ⟨0, _⟩ => show 64 * i.val ≤ (x 0).val ∧ (x 0).val < 64 * i.val + 64; omega
    | ⟨1, _⟩ => show 0 ≤ (x 1).val ∧ (x 1).val < 0 + 64; omega

theorem sRect_set (j : Fin 16) {off : Fin 3 → ℕ} (h : off = ![j.val, 0, 0]) (inb) : (sRect off inb).set = sRow j := by
  subst h
  ext x
  rw [mem_sRow (x := x), Rect.mem_set_unit]
  have h1 : (x 1).val < 64 := (x 1).isLt
  have h2 : (x 2).val < 64 := (x 2).isLt
  constructor
  · intro h
    have h0 : j.val ≤ (x 0).val ∧ (x 0).val < j.val + 1 := h 0
    omega
  · intro h a
    match a with
    | ⟨0, _⟩ => show j.val ≤ (x 0).val ∧ (x 0).val < j.val + 1; omega
    | ⟨1, _⟩ => show 0 ≤ (x 1).val ∧ (x 1).val < 0 + 64; omega
    | ⟨2, _⟩ => show 0 ≤ (x 2).val ∧ (x 2).val < 0 + 64; omega

/-- The result's rows as the kernel slices them, and a scratch slice without its unit axis. -/
abbrev oSl (off : Fin 2 → ℕ) (inb : ∀ a, off a + S64x64.size a ≤ S1024x64.size a) : Memref sig .tc .vmem S64x64 .bf16 :=
  oM.slice (oRect off inb) (fun _ => rfl)
abbrev sSl (off : Fin 3 → ℕ) (inb : ∀ a, off a + S1x64x64.size a ≤ S16x64x64.size a) : Memref sig .tc .vmem S64x64 .bf16 :=
  (scM.slice (sRect off inb) (fun _ => rfl)).squeeze S64x64 squeezes_S1x64x64_S64x64

theorem oSl_set (i : Fin 16) {off : Fin 2 → ℕ} (h : off = ![64 * i.val, 0]) (inb) : (oSl off inb).view.set = oRow i :=
  (View.set_slice_whole cc0_stg2_0 _).trans (oRect_set i h inb)
theorem sAcc_set (j : Fin 16) {off : Fin 3 → ℕ} (h : off = ![j.val, 0, 0]) (inb) :
    (scM.access (sRect off inb) : View sig .tc _ _ _).set = sRow j :=
  (View.set_slice_whole cc0_scratch0 _).trans (sRect_set j h inb)
theorem sSl_set (j : Fin 16) {off : Fin 3 → ℕ} (h : off = ![j.val, 0, 0]) (inb) : (sSl off inb).view.set = sRow j :=
  (View.set_reshape _ _).trans (sAcc_set j h inb)

/-! ## Reading and writing through them -/

/-- Element `(a, b)` of 64 result rows is element `(64 i + a, b)` of the buffer. -/
theorem oSl_emb (off : Fin 2 → ℕ) (inb) (y : S64x64.Idx) (a : Fin 2) :
    (((oSl off inb).view.emb y : S1024x64.Idx) a).val = off a + (y a).val :=
  ValueKit.view_emb_slice_whole_unit_val cc0_stg2_0 off S64x64.size inb y a
/-- Element `(0, a, b)` of a one-slice rectangle is element `(j, a, b)` of the scratch buffer. -/
theorem sAcc_emb (off : Fin 3 → ℕ) (inb) (y : S1x64x64.Idx) (a : Fin 3) :
    (((scM.access (sRect off inb) : View sig .tc _ _ _).emb y : S16x64x64.Idx) a).val = off a + (y a).val :=
  ValueKit.view_emb_slice_whole_unit_val cc0_scratch0 off S1x64x64.size inb y a
/-- The index with a leading zero. -/
def lead (y : S64x64.Idx) : S1x64x64.Idx := fun
  | ⟨0, _⟩ => ⟨0, Nat.one_pos⟩ | ⟨1, _⟩ => ⟨(y 0).val, (y 0).isLt⟩ | ⟨2, _⟩ => ⟨(y 1).val, (y 1).isLt⟩
theorem squeeze_lead (h : S64x64.numel = S1x64x64.numel) (y : S64x64.Idx) : Shape.reshapeEquiv h y = lead y := by
  refine (Shape.reshapeEquiv_cons_one (n := 2) (d := ![64, 64]) h y).trans (funext fun a => ?_)
  match a with
  | ⟨0, _⟩ => rfl
  | ⟨1, _⟩ => rfl
  | ⟨2, _⟩ => rfl
theorem sSl_emb (off : Fin 3 → ℕ) (inb) (y : S64x64.Idx) :
    (sSl off inb).view.emb y = (scM.access (sRect off inb) : View sig .tc _ _ _).emb (lead y) := by
  show (scM.access (sRect off inb) : View sig .tc _ _ _).emb (Shape.reshapeEquiv _ y) = _
  rw [squeeze_lead]

/-- Reading the cut rows of one device at slice `j` and stacking at `i`: the same element. -/
theorem cut_eq_stack {α : Type} (y : Fin 16 → S64x1024.Idx → α) (i j : Fin 16) (s : S16x64x64.Idx) (o : S1024x64.Idx)
    (hs : (s 0).val = j.val) (ho : (o 0).val = 64 * i.val + (s 1).val) (h1 : (o 1).val = (s 2).val) :
    cutOf (y i) s = stackOf y j o := by
  have hb : (s 1).val < 64 := (s 1).isLt
  unfold cutOf stackOf
  have e : (⟨(o 0).val / 64, by have h0 : (o 0).val < 1024 := (o 0).isLt; omega⟩ : Fin 16) = i := Fin.ext (by show (o 0).val / 64 = i.val; omega)
  rw [e]
  congr 1
  funext a
  match a with
  | ⟨0, _⟩ => exact Fin.ext (by show (s 1).val = (o 0).val % 64; omega)
  | ⟨1, _⟩ => exact Fin.ext (by show 64 * (s 0).val + (s 2).val = 64 * j.val + (o 1).val; omega)

/-- What the transfer of slice `j` of device `i`'s scratch writes into rows `64 i …` of device `j`'s result. -/
theorem landed_eq (i j : Dev nD) {offo : Fin 2 → ℕ} {offs : Fin 3 → ℕ} (ho : offo = ![64 * i.val, 0]) (hs : offs = ![j.val, 0, 0]) (inbo) (inbs)
    (fd : (cc0_stg2_0 : Ref sig .tc).ty.Contents (Elt F)) : ∀ x ∈ oRow i,
    ((oSl offo inbo).view.write (Elt F) fd ((sSl offs inbs).view.read (Elt F) (scrAt m ρ i)) Finset.univ : S1024x64.Idx → Elt F .bf16) x
      = outAt m ρ j x := by
  intro x hx
  rw [← oSl_set i ho inbo] at hx
  obtain ⟨y, -, rfl⟩ := Finset.mem_map.mp hx
  refine (View.write_emb_of_mem _ _ (Finset.mem_univ y)).trans ?_
  show scrAt m ρ i ((sSl offs inbs).view.emb y) = _
  rw [sSl_emb]
  have e0 := oSl_emb offo inbo y 0
  have e1 := oSl_emb offo inbo y 1
  have f0 := sAcc_emb offs inbs (lead y) 0
  have f1 := sAcc_emb offs inbs (lead y) 1
  have f2 := sAcc_emb offs inbs (lead y) 2
  subst ho hs
  refine cut_eq_stack (rowsAt m ρ) i j _ _ (f0.trans (Nat.add_zero _)) (e0.trans ?_) (e1.trans ?_)
  · rw [f1]; show 64 * i.val + (y 0).val = 64 * i.val + (0 + (y 0).val); omega
  · rw [f2]; rfl

/-- What device `c` copies of its own slice into rows `64 c …` of its own result. -/
theorem own_copy_eq (c : Dev nD) {offo : Fin 2 → ℕ} {offs : Fin 3 → ℕ} (ho : offo = ![64 * c.val, 0]) (hs : offs = ![c.val, 0, 0]) (inbo) (inbs)
    (fd : (cc0_stg2_0 : Ref sig .tc).ty.Contents (Elt F)) : ∀ x ∈ oRow c,
    ((oM.access (oRect offo inbo) : View sig .tc _ _ _).write (Elt F) fd
        (k0_pay19 (scM.view.readAt (Elt F) (sRect offs inbs).toLoadRect (scrAt m ρ c))) Finset.univ : S1024x64.Idx → Elt F .bf16) x
      = outAt m ρ c x := by
  intro x hx
  rw [← landed_eq m ρ c c ho hs inbo inbs fd x hx]
  rfl

/-- Storing slice `n` on top of a buffer that agrees with the cut rows on the slices before `n` makes it agree on
    slice `n` too. -/
theorem store_slice (c : Dev nD) (n : ℕ) (hn : n < 16) {off : Fin 3 → ℕ} (h : off = ![n, 0, 0]) (inb)
    (f : (cc0_scratch0 : Ref sig .tc).ty.Contents (Elt F)) (hf : ∀ i : S16x64x64.Idx, (i 0).val < n → (f : S16x64x64.Idx → Elt F .bf16) i = scrAt m ρ c i)
    (pay : FVec F S1x64x64 .bf16) (hp : ∀ y : S1x64x64.Idx, ∀ i : S16x64x64.Idx, (i 0).val = n → (i 1).val = (y 1).val → (i 2).val = (y 2).val → pay y = scrAt m ρ c i) :
    ∀ i : S16x64x64.Idx, (i 0).val < n + 1 →
      ((scM.access (sRect off inb) : View sig .tc _ _ _).write (Elt F) f pay Finset.univ : S16x64x64.Idx → Elt F .bf16) i = scrAt m ρ c i := by
  intro i hi
  have hset := sAcc_set ⟨n, hn⟩ h inb
  by_cases hin : (i 0).val = n
  · have hm : i ∈ (scM.access (sRect off inb) : View sig .tc _ _ _).set := by rw [hset, mem_sRow]; exact hin
    obtain ⟨y, -, rfl⟩ := Finset.mem_map.mp hm
    refine (View.write_emb_of_mem _ _ (Finset.mem_univ y)).trans ?_
    have f1 := sAcc_emb off inb y 1
    have f2 := sAcc_emb off inb y 2
    subst h
    exact hp y _ hin (f1.trans (Nat.zero_add _)) (f2.trans (Nat.zero_add _))
  · refine (View.write_of_not_mem _ _ _ (fun hm => hin ?_)).trans (hf i (by omega))
    have hm' : i ∈ (scM.access (sRect off inb) : View sig .tc _ _ _).set := hm
    rw [hset, mem_sRow] at hm'; exact hm'

/-- A 64-column slice of the computed rows, with a leading unit axis, is the slice the scratch buffer is to hold. -/
theorem slice_pay (c : Dev nD) (n : ℕ) {off : Fin 2 → ℕ} (h : off = ![0, 64 * n]) (hs : S64x1024.Slices off S64x64)
    (hc : S64x64.ShapeCasts S1x64x64) (y : S1x64x64.Idx) (i : S16x64x64.Idx)
    (h0 : (i 0).val = n) (h1 : (i 1).val = (y 1).val) (h2 : (i 2).val = (y 2).val) :
    shapeCast S1x64x64 (extractStridedSlice S64x64 off (k0_pay1 (xstg m ρ c) (wstg m ρ c)) hs) hc y = scrAt m ρ c i := by
  subst h
  refine (shapeCast_addUnit_apply (n := 2) ![64, 64] _ hc y).trans ?_
  refine extractStridedSlice_apply _ _ hs _ _ fun a => ?_
  match a with
  | ⟨0, _⟩ => show (i 1).val = 0 + (y 1).val; omega
  | ⟨1, _⟩ => show 64 * (i 0).val + (i 2).val = 64 * n + (y 2).val; omega

/-! ## A buffer held as its blocks -/

theorem oBlks (c : Dev nD) (f : Buf (Elt F) ((c : Thread nD τ).loc cc0_stg2_0)) :
    (((c : Thread nD τ).loc cc0_stg2_0) ↦{fullShare} f : sProp 𝕄) = bigSep Finset.univ fun i : Fin 16 => oBlk c i f :=
  Ring.pointsTo_blocks (ℓ := (c : Thread nD τ).loc cc0_stg2_0) oRow
    (fun i j hij => Finset.disjoint_left.2 fun x hx hy => hij (Fin.ext ((mem_oRow.1 hx).symm.trans (mem_oRow.1 hy))))
    (Finset.eq_univ_iff_forall.2 fun x => Finset.mem_biUnion.2
      ⟨⟨((x : S1024x64.Idx) 0).val / 64, by have h0 : ((x : S1024x64.Idx) 0).val < 1024 := ((x : S1024x64.Idx) 0).isLt; omega⟩, Finset.mem_univ _, mem_oRow.2 rfl⟩) f
theorem sBlks (c : Dev nD) (f : Buf (Elt F) ((c : Thread nD τ).loc cc0_scratch0)) :
    (((c : Thread nD τ).loc cc0_scratch0) ↦{fullShare} f : sProp 𝕄) = bigSep Finset.univ fun i : Fin 16 => sBlk c i f :=
  Ring.pointsTo_blocks (ℓ := (c : Thread nD τ).loc cc0_scratch0) sRow
    (fun i j hij => Finset.disjoint_left.2 fun x hx hy => hij (Fin.ext ((mem_sRow.1 hx).symm.trans (mem_sRow.1 hy))))
    (Finset.eq_univ_iff_forall.2 fun x => Finset.mem_biUnion.2
      ⟨⟨((x : S16x64x64.Idx) 0).val, ((x : S16x64x64.Idx) 0).isLt⟩, Finset.mem_univ _, mem_sRow.2 rfl⟩) f

/-- Over all devices is at `c` and over the others. -/
theorem own_apart {M : Type} [URA M] (c : Dev nD) (Φ : Dev nD → sProp M) :
    bigSep Finset.univ Φ = iprop(Φ c ∗ bigSep (Finset.univ.erase c) Φ) := bigSep_erase (Finset.mem_univ c)

/-- The result buffer as `c`'s own block and the blocks of the devices after `c`. -/
theorem oBlks_to (c : Dev nD) (f : Buf (Elt F) ((c : Thread nD τ).loc cc0_stg2_0)) :
    (((c : Thread nD τ).loc cc0_stg2_0) ↦{fullShare} f : sProp 𝕄) = iprop(oBlk c c f ∗ bigSep Finset.univ fun r : Fin 15 => oBlk c (toD c r) f) := by
  rw [oBlks, own_apart c, ← bigSep_toD c fun i => oBlk c i f]
/-- The result buffer as `c`'s own block and the blocks of the devices before `c`. -/
theorem oBlks_fr (c : Dev nD) (f : Buf (Elt F) ((c : Thread nD τ).loc cc0_stg2_0)) :
    (((c : Thread nD τ).loc cc0_stg2_0) ↦{fullShare} f : sProp 𝕄) = iprop(oBlk c c f ∗ bigSep Finset.univ fun r : Fin 15 => oBlk c (frD c r) f) := by
  rw [oBlks, own_apart c, ← bigSep_frD c fun i => oBlk c i f]
/-- The scratch buffer as `c`'s own slice and the slices for the devices after `c`. -/
theorem sBlks_to (c : Dev nD) (f : Buf (Elt F) ((c : Thread nD τ).loc cc0_scratch0)) :
    (((c : Thread nD τ).loc cc0_scratch0) ↦{fullShare} f : sProp 𝕄) = iprop(sBlk c c f ∗ bigSep Finset.univ fun r : Fin 15 => sBlk c (toD c r) f) := by
  rw [sBlks, own_apart c, ← bigSep_toD c fun i => sBlk c i f]

end Cert.KernelIdeal.Exchange

end
-- ==== Proof.KernelIdealSteps.lean ====
/-
# The kernel's operations, one step lemma for each kind

A step lemma says: from the state before the operation, what follows the operation run from the state after it is
enough. States are indexed by how many operations of their kind are done, so that one lemma serves all fifteen
signals, all sixteen stores, all fifteen transfers and all thirty waits.
-/
module

public import proofs.«01_k».proof.Proof.KernelIdealBlocks

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` running `p`, to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What all devices share -/

/-- Every cell's invariant, and that every cell has reached round 0. -/
def records (K : Dev nD × CIx → ℕ) : sProp 𝕄 :=
  iprop((bigSep Finset.univ fun ck : Dev nD × CIx => cellInv ER (ringRd m ρ) (K ck) (kcell ck))
    ∗ bigSep Finset.univ fun ck : Dev nD × CIx => reached ER (kcell ck) 0)

instance records_persistent (K : Dev nD × CIx → ℕ) : BI.Persistent (records m ρ K) := by unfold records; infer_instance

theorem records_inv (K : Dev nD × CIx → ℕ) (ck : Dev nD × CIx) : records m ρ K ⊢ cellInv ER (ringRd m ρ) (K ck) (kcell ck) := by
  have h : (bigSep Finset.univ fun ck : Dev nD × CIx => (cellInv ER (ringRd m ρ) (K ck) (kcell ck) : sProp 𝕄)) ⊢ cellInv ER (ringRd m ρ) (K ck) (kcell ck) :=
    bigSep_elim (Finset.mem_univ ck)
  unfold records
  iintro ⟨H, -⟩
  iapply h; iexact H
theorem records_reached (K : Dev nD × CIx → ℕ) (ck : Dev nD × CIx) : records m ρ K ⊢ reached ER (kcell ck) 0 := by
  have h : (bigSep Finset.univ fun ck : Dev nD × CIx => (reached ER (kcell ck) 0 : sProp 𝕄)) ⊢ reached ER (kcell ck) 0 :=
    bigSep_elim (Finset.mem_univ ck)
  unfold records
  iintro ⟨-, H⟩
  iapply h; iexact H

/-! ## Fifteen things, some done and some to do -/

/-- Those from `n` on. -/
def todo (Φ : Fin 15 → sProp 𝕄) (n : ℕ) : sProp 𝕄 := bigSep (Finset.univ.filter fun r : Fin 15 => n ≤ r.val) Φ
/-- Those before `n`. -/
def done (Φ : Fin 15 → sProp 𝕄) (n : ℕ) : sProp 𝕄 := bigSep (Finset.univ.filter fun r : Fin 15 => r.val < n) Φ

theorem todo_zero (Φ : Fin 15 → sProp 𝕄) : bigSep Finset.univ Φ = todo Φ 0 := by unfold todo; rw [from_zero]
theorem todo_all (Φ : Fin 15 → sProp 𝕄) : todo Φ 15 = iprop(emp) := by unfold todo; rw [from_all, bigSep_empty]; rfl
theorem todo_succ (Φ : Fin 15 → sProp 𝕄) (r : Fin 15) : todo Φ r.val = iprop(Φ r ∗ todo Φ (r.val + 1)) := by
  unfold todo; rw [from_succ r]; exact bigSep_insert (not_mem_from_succ r)
theorem done_zero (Φ : Fin 15 → sProp 𝕄) : done Φ 0 = iprop(emp) := by
  unfold done; rw [show Finset.univ.filter (fun r : Fin 15 => r.val < 0) = ∅ by decide, bigSep_empty]; rfl
theorem done_all (Φ : Fin 15 → sProp 𝕄) : done Φ 15 = bigSep Finset.univ Φ := by
  unfold done; rw [show Finset.univ.filter (fun r : Fin 15 => r.val < 15) = Finset.univ by decide]
theorem done_succ (Φ : Fin 15 → sProp 𝕄) (r : Fin 15) : done Φ (r.val + 1) = iprop(Φ r ∗ done Φ r.val) := by
  unfold done
  rw [show Finset.univ.filter (fun s : Fin 15 => s.val < r.val + 1) = insert r (Finset.univ.filter fun s : Fin 15 => s.val < r.val) by
    ext s; simp only [Finset.mem_filter, Finset.mem_univ, true_and, Finset.mem_insert, Fin.ext_iff]; omega]
  exact bigSep_insert (by simp)

variable (K : Dev nD × CIx → ℕ) (c : Dev nD)

/-! ## Signals -/

/-- What the `r`-th signal needs: its duty, and the rows of `c`'s result that it gives up. -/
def sigNeed (f : Buf (Elt F) ((c : Thread nD τ).loc cc0_stg2_0)) (r : Fin 15) : sProp 𝕄 :=
  iprop(dutyTok ER (barCell (toD c r)) 0 c ∗ oBlk c (toD c r) f)
/-- `n` signals sent. -/
def SigSt (f : Buf (Elt F) ((c : Thread nD τ).loc cc0_stg2_0)) (n : ℕ) : sProp 𝕄 :=
  iprop(records m ρ K ∗ (∃ W, owes (c : Thread nD τ) (owed c n 0) W) ∗ todo (sigNeed c f) n)

/-- The `r`-th signal, to device `c + r + 1`. -/
theorem sig_step (f : Buf (Elt F) ((c : Thread nD τ).loc cc0_stg2_0)) (r : Fin 15) (n : ℕ) (hr : r.val = n) {d : Dev nD} (hd : d = toD c r) {k' : ℕ} (hk' : 1 = k')
    {α : Type} {k : PUnit → Prog (TpuEff nD τ sig (Elt F) Λ₀ .tc) α} {Q : α → sProp 𝕄} {R : sProp 𝕄}
    (h : iprop(SigSt m ρ K c f (n + 1) ∗ R) ⊢ runs c (k ⟨⟩) Q) :
    iprop(SigSt m ρ K c f n ∗ R) ⊢ runs c (.op (.semSignal (Dev.tc d : Thread nD τ) barS k') k) Q := by
  subst hd hk' hr
  unfold SigSt at h ⊢
  rw [todo_succ]
  unfold sigNeed at h ⊢
  iintro ⟨⟨#Hr, ⟨%W, HO⟩, ⟨Ht, Hb⟩, Htodo⟩, HR⟩
  iapply (Rounds.wp_signal 𝒱₀ ER (ringRd m ρ) (c : Thread nD τ) none (dst := (toD c r : Thread nD τ)) (κ := K (toD c r, .inl ())) (d := c)
      (by rw [duties_bar]; exact Finset.mem_erase.mpr ⟨(toD_ne c r).symm, Finset.mem_univ _⟩) (amount_bar m ρ (toD c r) c) () (owed c (r.val + 1) 0) (owed_signal c r 0))
    $$ [HO Ht Hb]
  · isplitr; · iapply (records_inv m ρ K (toD c r, .inl ())); iexact Hr
    isplitl [HO]; · iexact HO
    isplitl [Ht]; · iexact Ht
    isplitl [Hb]
    · rw [payload_bar]; iexists f; iexact Hb
    iapply (records_reached m ρ K (toD c r, .inl ())); iexact Hr
  iintro HO
  iapply h
  isplitr [HR]
  · isplitr; · iexact Hr
    isplitl [HO]; · iexists W; iexact HO
    iexact Htodo
  iexact HR

/-! ## The barrier wait -/

/-- What the barrier wait needs besides the signals sent: fifteen units promised, the cell at its start, the levels. -/
def barNeed : sProp 𝕄 :=
  iprop(cred (tallyAt (barCell c) () 15) ∗ atPos ER (barCell c) 0 ∅ 0 ∗ levAts L lv)
/-- What it leaves: the debts for the transfers, the barrier's counter at zero, and of each other device's result the rows
    that `c` is to fill. -/
def BarSt : sProp 𝕄 :=
  iprop(records m ρ K ∗ (∃ W, owes (c : Thread nD τ) (owed c 15 0) W) ∗ semVal (barCell c) 0
    ∗ bigSep Finset.univ fun r : Fin 15 => iprop(∃ f, oBlk (toD c r) c f))

/-- The wait for fifteen signals. -/
theorem bar_step (f : Buf (Elt F) ((c : Thread nD τ).loc cc0_stg2_0)) {k' : ℕ} (hk' : 15 = k')
    {α : Type} {k : PUnit → Prog (TpuEff nD τ sig (Elt F) Λ₀ .tc) α} {Q : α → sProp 𝕄} {R : sProp 𝕄}
    (h : iprop(BarSt m ρ K c ∗ R) ⊢ runs c (k ⟨⟩) Q) :
    iprop(SigSt m ρ K c f 15 ∗ barNeed c ∗ R) ⊢ runs c (.op (.semWait barS k') k) Q := by
  subst hk'
  unfold BarSt at h
  unfold SigSt barNeed
  iintro ⟨⟨#Hr, ⟨%W, HO⟩, -⟩, ⟨Hc, Hat, #Hlev⟩, HR⟩
  iapply (Rounds.wp_wait_rest_token 𝒱₀ ER (ringRd m ρ) (c : Thread nD τ) none (κ := K (c, .inl ()))
      (wpE_semWait_eq 𝒱₀ (c : Thread nD τ) none Set.univ) (Set.mem_univ _) () (O := owed c 15 0) (W := W) (R := 0) (m := 0) (T := ∅)
      (by rw [expect_bar])) $$ [Hc HO Hat]
  · isplitr; · iapply (records_inv m ρ K (c, .inl ())); iexact Hr
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (records_inv m ρ K (c, .inl ())); iexact Hr
    iexact Hat
  iapply h
  isplitr [HR]
  · isplitr; · iexact Hr
    isplitl [HO]; · iexists _; iexact HO
    isplitl [Hz]; · iexact Hz
    iexact Hp
  iexact HR

/-! ## Loads of the operands, and the scratch buffer filled slice by slice -/

theorem origin2 : (![0, 0] : Fin 2 → ℕ) = fun _ => 0 := funext fun a => by fin_cases a <;> rfl

/-- The staged block of `x`, and the staged `w`. -/
def xPts : sProp 𝕄 := ((c : Thread nD τ).loc cc0_stg0_0) ↦{fullShare} xstg m ρ c
def wPts : sProp 𝕄 := ((c : Thread nD τ).loc cc0_stg1_0) ↦{fullShare} wstg m ρ c

theorem load_x {inb} {hl} {α : Type} {k : (S64x1024.Idx → Elt F .bf16) → Prog (TpuEff nD τ sig (Elt F) Λ₀ .tc) α} {Q : α → sProp 𝕄} {R : sProp 𝕄}
    (h : iprop(xPts m ρ c ∗ R) ⊢ runs c (k (xstg m ρ c)) Q) :
    iprop(xPts m ρ c ∗ R) ⊢ runs c (.op (.load xM (Rect.unit (s := S64x1024) ![0, 0] S64x1024.size inb).toLoadRect hl) k) Q := by
  unfold xPts at h ⊢
  iintro ⟨Hx, HR⟩
  iapply (wp_load 𝒱₀ (c : Thread nD τ) none Set.univ (m := xM) (Finset.subset_univ _)) $$ Hx
  iintro Hx
  have e : xM.view.readAt (Elt F) (Rect.unit (s := S64x1024) ![0, 0] S64x1024.size inb).toLoadRect (xstg m ρ c) = xstg m ρ c :=
    Memref.readAt_unit_zero (Elt F) cc0_stg0_0 origin2 inb (xstg m ρ c)
  rw [e]
  iapply h
  isplitl [Hx] <;> iassumption
theorem load_w {inb} {hl} {α : Type} {k : (S1024x1024.Idx → Elt F .bf16) → Prog (TpuEff nD τ sig (Elt F) Λ₀ .tc) α} {Q : α → sProp 𝕄} {R : sProp 𝕄}
    (h : iprop(wPts m ρ c ∗ R) ⊢ runs c (k (wstg m ρ c)) Q) :
    iprop(wPts m ρ c ∗ R) ⊢ runs c (.op (.load wM (Rect.unit (s := S1024x1024) ![0, 0] S1024x1024.size inb).toLoadRect hl) k) Q := by
  unfold wPts at h ⊢
  iintro ⟨Hx, HR⟩
  iapply (wp_load 𝒱₀ (c : Thread nD τ) none Set.univ (m := wM) (Finset.subset_univ _)) $$ Hx
  iintro Hx
  have e : wM.view.readAt (Elt F) (Rect.unit (s := S1024x1024) ![0, 0] S1024x1024.size inb).toLoadRect (wstg m ρ c) = wstg m ρ c :=
    Memref.readAt_unit_zero (Elt F) cc0_stg1_0 origin2 inb (wstg m ρ c)
  rw [e]
  iapply h
  isplitl [Hx] <;> iassumption

/-- The scratch buffer with its first `n` slices stored. -/
def ScrSt (n : ℕ) : sProp 𝕄 :=
  iprop(∃ f : Buf (Elt F) ((c : Thread nD τ).loc cc0_scratch0),
    ⌜∀ i : S16x64x64.Idx, (i 0).val < n → (f : S16x64x64.Idx → Elt F .bf16) i = scrAt m ρ c i⌝ ∗ (((c : Thread nD τ).loc cc0_scratch0) ↦{fullShare} f))

/-- A load of the scratch buffer whose result is not used. -/
theorem scr_load (n : ℕ) {r : LoadRect S16x64x64} {hl} {α : Type} {k : (r.shape.Idx → Elt F .bf16) → Prog (TpuEff nD τ sig (Elt F) Λ₀ .tc) α} {Q : α → sProp 𝕄} {R : sProp 𝕄}
    (h : ∀ v, iprop(ScrSt m ρ c n ∗ R) ⊢ runs c (k v) Q) :
    iprop(ScrSt m ρ c n ∗ R) ⊢ runs c (.op (.load scM r hl) k) Q := by
  unfold ScrSt at h ⊢
  iintro ⟨⟨%f, %hf, Hs⟩, HR⟩
  iapply (wp_load 𝒱₀ (c : Thread nD τ) none Set.univ (m := scM) (Finset.subset_univ _)) $$ Hs
  iintro Hs
  iapply (h _)
  isplitl [Hs]
  · iexists f
    isplitr; · ipureintro; exact hf
    iexact Hs
  iexact HR

/-- The store of slice `n`. -/
theorem scr_store (n : ℕ) (hn : n < 16) {inb} {pay : FVec F S1x64x64 .bf16}
    (hp : ∀ y : S1x64x64.Idx, ∀ i : S16x64x64.Idx, (i 0).val = n → (i 1).val = (y 1).val → (i 2).val = (y 2).val → pay y = scrAt m ρ c i)
    {hx} {hm} {α : Type} {k : PUnit → Prog (TpuEff nD τ sig (Elt F) Λ₀ .tc) α} {Q : α → sProp 𝕄} {R : sProp 𝕄}
    (h : iprop(ScrSt m ρ c (n + 1) ∗ R) ⊢ runs c (k ⟨⟩) Q) :
    iprop(ScrSt m ρ c n ∗ R) ⊢ runs c (.op (.store scM (Rect.unit (s := S16x64x64) ![n, 0, 0] S1x64x64.size inb) pay Finset.univ hx hm) k) Q := by
  unfold ScrSt at h ⊢
  iintro ⟨⟨%f, %hf, Hs⟩, HR⟩
  iapply (wp_store 𝒱₀ (c : Thread nD τ) none Set.univ (m := scM) (r := sRect ![n, 0, 0] inb) (Mk := Finset.univ) (Finset.subset_univ _)) $$ Hs
  iintro Hs
  iapply h
  isplitl [Hs]
  · iexists _
    isplitr
    rotate_left
    · iexact Hs
    · ipureintro; exact store_slice m ρ c n hn rfl inb f hf pay hp
  iexact HR

/-- All sixteen slices stored: `c`'s own, and those for the devices after it. -/
theorem scr_full : ScrSt m ρ c 16 ⊢ iprop(sBlk c c (scrAt m ρ c) ∗ bigSep Finset.univ fun r : Fin 15 => sBlk c (toD c r) (scrAt m ρ c)) := by
  unfold ScrSt
  iintro ⟨%f, %hf, Hs⟩
  rw [← sBlks_to]
  have e : f = scrAt m ρ c := funext fun i => hf i (Fin.isLt _)
  subst e
  iexact Hs

/-! ## The device's own slice -/

/-- The own slice read, and written to the own rows of the result. -/
theorem own_step {offs : Fin 3 → ℕ} {offo : Fin 2 → ℕ} (hs : offs = ![c.val, 0, 0]) (ho : offo = ![64 * c.val, 0]) {inbs} {inbo} {hl hl'} {hx} {hm}
    (f : Buf (Elt F) ((c : Thread nD τ).loc cc0_stg2_0))
    {α : Type} {k : PUnit → Prog (TpuEff nD τ sig (Elt F) Λ₀ .tc) α} {Q : α → sProp 𝕄} {R : sProp 𝕄}
    (h : iprop(sBlk c c (scrAt m ρ c) ∗ oBlk c c (outAt m ρ c) ∗ R) ⊢ runs c (k ⟨⟩) Q) :
    iprop(sBlk c c (scrAt m ρ c) ∗ oBlk c c f ∗ R) ⊢ runs c
      (.op (.load scM (Rect.unit (s := S16x64x64) offs S1x64x64.size inbs).toLoadRect hl) fun v =>
        .op (.load oM (Rect.unit (s := S1024x64) offo S64x64.size inbo).toLoadRect hl') fun _ =>
          .op (.store oM (Rect.unit (s := S1024x64) offo S64x64.size inbo) (k0_pay19 v) Finset.univ hx hm) k) Q := by
  unfold oBlk sBlk at h ⊢
  iintro ⟨Hs, Ho, HR⟩
  have es : (scM.access (sRect offs inbs) : View sig .tc _ _ _).set = sRow c := sAcc_set c hs inbs
  have eo : (oM.access (oRect offo inbo) : View sig .tc _ _ _).set = oRow c := oSl_set c ho inbo
  iapply (wp_load_rect 𝒱₀ (c : Thread nD τ) none Set.univ (m := scM) (r := sRect offs inbs) (S := sRow c) (le_of_eq es)) $$ Hs
  iintro Hs
  iapply (wp_load_rect 𝒱₀ (c : Thread nD τ) none Set.univ (m := oM) (r := oRect offo inbo) (S := oRow c) (le_of_eq eo)) $$ Ho
  iintro Ho
  iapply (wp_store 𝒱₀ (c : Thread nD τ) none Set.univ (m := oM) (r := oRect offo inbo) (Mk := Finset.univ) (S := oRow c) (le_of_eq eo)) $$ Ho
  iintro Ho
  iapply h
  isplitl [Hs]; · iexact Hs
  isplitl [Ho]
  · iapply (Entails.of_eq (pointsTo_congr (own_copy_eq m ρ c ho hs inbo inbs f)))
    iexact Ho
  iexact HR

/-! ## Transfers -/

/-- What the `r`-th transfer needs: the slice it reads, the rows it overwrites, its two duties. -/
def sendNeed (r : Fin 15) : sProp 𝕄 :=
  iprop(sBlk c (toD c r) (scrAt m ρ c) ∗ (∃ f, oBlk (toD c r) c f)
    ∗ dutyTok ER (sendCell c (sIx r)) 0 c ∗ dutyTok ER (recvCell (toD c r) c) 0 c)
/-- The credit it leaves on the send semaphore. -/
def sendCred (r : Fin 15) : sProp 𝕄 := cred (tallyAt (sendCell c (sIx r)) () N)
/-- `n` transfers started. -/
def SendSt (n : ℕ) : sProp 𝕄 :=
  iprop(records m ρ K ∗ (∃ W, owes (c : Thread nD τ) (owed c 15 n) W) ∗ todo (sendNeed m ρ c) n ∗ done (sendCred c) n)

/-- The `r`-th transfer, of slice `c + r + 1` to device `c + r + 1`. -/
theorem send_step (r : Fin 15) (n : ℕ) (hr : r.val = n) {d : Dev nD} (hd : d = toD c r)
    {offs : Fin 3 → ℕ} {offo : Fin 2 → ℕ} (hs : offs = ![(toD c r).val, 0, 0]) (ho : offo = ![64 * c.val, 0]) {inbs} {inbo}
    {q q' : DmaSem sig} (hq : q = sendQ (sIx r)) (hq' : q' = recvQ c)
    {hsc : ((oSl offo inbo : Memref sig (Dev.tc d : Thread nD τ).2.kind .vmem S64x64 .bf16)).view.ref.isScScratch = false}
    {hsrc : (sSl offs inbs).view.WordExact} {hdst : (oSl offo inbo).view.WordExact}
    {hsem : DmaTarget.Typed .vmem (.dma q') (.remote (Dev.tc d : Thread nD τ) (oSl offo inbo) (.dma q) hsc)}
    {α : Type} {k : PUnit → Prog (TpuEff nD τ sig (Elt F) Λ₀ .tc) α} {Q : α → sProp 𝕄} {R : sProp 𝕄}
    (h : iprop(SendSt m ρ K c (n + 1) ∗ R) ⊢ runs c (k ⟨⟩) Q) :
    iprop(SendSt m ρ K c n ∗ R) ⊢ runs c
      (.op (.enqueueDma (sSl offs inbs) (.remote (Dev.tc d : Thread nD τ) (oSl offo inbo) (.dma q) hsc) (.dma q') hsrc hdst hsem) k) Q := by
  subst hd hq hq' hr
  unfold SendSt at h ⊢
  rw [todo_succ, show sendNeed m ρ c r = iprop(sBlk c (toD c r) (scrAt m ρ c) ∗ (∃ f, oBlk (toD c r) c f)
    ∗ dutyTok ER (sendCell c (sIx r)) 0 c ∗ dutyTok ER (recvCell (toD c r) c) 0 c) from rfl]
  rw [done_succ, show sendCred c r = cred (tallyAt (sendCell c (sIx r)) () N) from rfl] at h
  iintro ⟨⟨#Hr, ⟨%W, HO⟩, ⟨⟨Hs, ⟨%fd, Ho⟩, Ht, Ht'⟩, Htodo⟩, Hdone⟩, HR⟩
  unfold sBlk oBlk
  rw [← sSl_set (toD c r) hs inbs, ← oSl_set c ho inbo]
  iapply (Rounds.wp_send_pointsTo 𝒱₀ ER (ringRd m ρ) (c : Thread nD τ) none (src := sSl offs inbs) (dst := oSl offo inbo) (c' := (toD c r : Thread nD τ))
      (κ₁ := K (c, .inr (.inl (sIx r)))) (κ₂ := K (toD c r, .inr (.inr c)))
      (r₁ := 0) (r₂ := 0) (d₁ := c) (d₂ := c) (fd := fd)
      (by rw [duties_send]; exact Finset.mem_singleton_self _) (by rw [duties_recv m ρ (toD c r) (toD_ne c r).symm]; exact Finset.mem_singleton_self _)
      () () N rfl (amount_send m ρ c _ c) (amount_recv m ρ (toD c r) c c) (owed c 15 (r.val + 1)) (owed_send c r) (W := W)
      (by rw [payload_send, sSl_set (toD c r) hs inbs]; exact BI.Entails.refl _)
      (by rw [payload_recv, oSl_set c ho inbo]; unfold oBlk
          exact Entails.of_eq (pointsTo_congr (landed_eq m ρ c (toD c r) ho hs inbo inbs fd)))) $$ [HO Hs Ho Ht Ht']
  · isplitr; · iapply (records_inv m ρ K (c, .inr (.inl (sIx r)))); iexact Hr
    isplitr; · iapply (records_inv m ρ K (toD c r, .inr (.inr c))); iexact Hr
    isplitl [Hs]; · iexact Hs
    isplitl [Ho]; · iexact Ho
    isplitl [HO]; · iexact HO
    isplitl [Ht]; · iexact Ht
    isplitr; · iapply (records_reached m ρ K (c, .inr (.inl (sIx r)))); iexact Hr
    isplitl [Ht']; · iexact Ht'
    iapply (records_reached m ρ K (toD c r, .inr (.inr c))); iexact Hr
  iintro ⟨Hc, HO⟩
  iapply h
  isplitr [HR]
  · isplitr; · iexact Hr
    isplitl [HO]; · iexists W; iexact HO
    isplitl [Htodo]; · iexact Htodo
    isplitl [Hc] <;> iassumption
  iexact HR

/-! ## Waits for the landings -/

/-- What the `r`-th landing wait needs: a transfer promised on the receive semaphore, the cell at its start. -/
def recvNeed (r : Fin 15) : sProp 𝕄 :=
  iprop(cred (tallyAt (recvCell c (frD c r)) () N) ∗ atPos ER (recvCell c (frD c r)) 0 ∅ 0)
/-- What it leaves: the rows of the result that landed, the counter at zero. -/
def recvGot (r : Fin 15) : sProp 𝕄 :=
  iprop(oBlk c (frD c r) (outAt m ρ c) ∗ semVal (recvCell c (frD c r)) 0)
/-- `n` landings waited for. -/
def RecvSt (n : ℕ) : sProp 𝕄 :=
  iprop(records m ρ K ∗ (∃ W, owes (c : Thread nD τ) 0 W) ∗ todo (recvNeed c) n ∗ done (recvGot m ρ c) n)

/-- The `r`-th landing wait, for the slice of device `c - r - 1`. -/
theorem recv_step (r : Fin 15) (n : ℕ) (hr : r.val = n) {q : DmaSem sig} (hq : q = recvQ (frD c r))
    {s : Shape} {e : EltTy} {sp : Space} {src : Memref sig .tc sp s e} {dst : Memref sig .tc .vmem S64x64 .bf16} (hN : dst.view.dmaCredit = N)
    {hsrc : src.view.WordExact} {hdst : dst.view.WordExact}
    {α : Type} {k : PUnit → Prog (TpuEff nD τ sig (Elt F) Λ₀ .tc) α} {Q : α → sProp 𝕄} {R : sProp 𝕄}
    (h : iprop(RecvSt m ρ K c (n + 1) ∗ R) ⊢ runs c (k ⟨⟩) Q) :
    iprop(RecvSt m ρ K c n ∗ R) ⊢ runs c (.op (.waitDma2 q src dst hsrc hdst) k) Q := by
  subst hq hr
  unfold RecvSt at h ⊢
  rw [todo_succ]
  rw [done_succ] at h
  unfold recvNeed recvGot at h ⊢
  iintro ⟨⟨#Hr, ⟨%W, HO⟩, ⟨⟨Hc, Hat⟩, Htodo⟩, Hdone⟩, HR⟩
  iapply (Rounds.wp_wait_rest_token 𝒱₀ ER (ringRd m ρ) (c : Thread nD τ) none (κ := K (c, .inr (.inr (frD c r))))
      (wpE_waitDma2_eq 𝒱₀ (c : Thread nD τ) none Set.univ) (Set.mem_univ _) () (O := 0) (W := W) (R := 0) (m := 0) (T := ∅)
      (by rw [Nat.zero_add, expect_recv m ρ c (frD_ne c r), hN])) $$ [Hc HO Hat]
  · isplitr; · iapply (records_inv m ρ K (c, .inr (.inr (frD c r)))); iexact Hr
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c (frD_ne c r))) $$ Hpay
  imod (Rounds.cell_close ER (ringRd m ρ) (Set.mem_univ (K (c, .inr (.inr (frD c r))))) (fun h => h) (R := 0 + 1) (duties_later m ρ (recvCell c (frD c r)))) $$ [Hat] with Hz
  · isplitr; · iapply (records_inv m ρ K (c, .inr (.inr (frD c r)))); iexact Hr
    iexact Hat
  iapply h
  isplitr [HR]
  · isplitr; · iexact Hr
    isplitl [HO]; · iexists _; iexact HO
    isplitl [Htodo]; · iexact Htodo
    isplitr [Hdone]
    · isplitl [Hp] <;> iassumption
    iexact Hdone
  iexact HR

/-! ## Waits for the sources -/

/-- What the `r`-th source wait needs, and what it leaves: the slice that was sent, the counter at zero. -/
def backNeed (r : Fin 15) : sProp 𝕄 := iprop(sendCred c r ∗ atPos ER (sendCell c (sIx r)) 0 ∅ 0)
def backGot (r : Fin 15) : sProp 𝕄 := iprop(sBlk c (toD c r) (scrAt m ρ c) ∗ semVal (sendCell c (sIx r)) 0)
/-- `n` sources waited for. -/
def BackSt (n : ℕ) : sProp 𝕄 :=
  iprop(records m ρ K ∗ (∃ W, owes (c : Thread nD τ) 0 W) ∗ todo (backNeed c) n ∗ done (backGot m ρ c) n)

/-- The `r`-th source wait. -/
theorem back_step (r : Fin 15) (n : ℕ) (hr : r.val = n) {q : DmaSem sig} (hq : q = sendQ (sIx r))
    {s : Shape} {e : EltTy} {sp : Space} {src : Memref sig .tc sp s e} {dst : Memref sig .tc .vmem S64x64 .bf16} (hN : dst.view.dmaCredit = N)
    {hsrc : src.view.WordExact} {hdst : dst.view.WordExact}
    {α : Type} {k : PUnit → Prog (TpuEff nD τ sig (Elt F) Λ₀ .tc) α} {Q : α → sProp 𝕄} {R : sProp 𝕄}
    (h : iprop(BackSt m ρ K c (n + 1) ∗ R) ⊢ runs c (k ⟨⟩) Q) :
    iprop(BackSt m ρ K c n ∗ R) ⊢ runs c (.op (.waitDma2 q src dst hsrc hdst) k) Q := by
  subst hq hr
  unfold BackSt at h ⊢
  rw [todo_succ]
  rw [done_succ] at h
  unfold backNeed backGot sendCred at h ⊢
  iintro ⟨⟨#Hr, ⟨%W, HO⟩, ⟨⟨Hc, Hat⟩, Htodo⟩, Hdone⟩, HR⟩
  iapply (Rounds.wp_wait_rest_token 𝒱₀ ER (ringRd m ρ) (c : Thread nD τ) none (κ := K (c, .inr (.inl (sIx r))))
      (wpE_waitDma2_eq 𝒱₀ (c : Thread nD τ) none Set.univ) (Set.mem_univ _) () (O := 0) (W := W) (R := 0) (m := 0) (T := ∅)
      (by rw [Nat.zero_add, expect_send m ρ c r, hN])) $$ [Hc HO Hat]
  · isplitr; · iapply (records_inv m ρ K (c, .inr (.inl (sIx r)))); iexact Hr
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c r)) $$ Hpay
  imod (Rounds.cell_close ER (ringRd m ρ) (Set.mem_univ (K (c, .inr (.inl (sIx r))))) (fun h => h) (R := 0 + 1) (duties_later m ρ (sendCell c (sIx r)))) $$ [Hat] with Hz
  · isplitr; · iapply (records_inv m ρ K (c, .inr (.inl (sIx r)))); iexact Hr
    iexact Hat
  iapply h
  isplitr [HR]
  · isplitr; · iexact Hr
    isplitl [HO]; · iexists _; iexact HO
    isplitl [Htodo]; · iexact Htodo
    isplitr [Hdone]
    · isplitl [Hp] <;> iassumption
    iexact Hdone
  iexact HR

end Cert.KernelIdeal.Exchange

end
-- ==== Proof.KernelIdealBody.lean ====
/-
# The kernel body, at one device

The body runs through five stages: it signals the other devices and waits for them, it computes its rows and stores them
slice by slice, it writes its own slice and starts fifteen transfers, it waits for the fifteen slices it receives, and it
waits until its own slices are read. The program text is in twenty parts; there is one lemma for each part, which carries
an arbitrary further resource `R` along.
-/
module

public import proofs.«01_k».proof.Proof.KernelIdealSteps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ) (c : Dev nD)

section Parts
variable {α : Type} {Q : α → sProp (MT nD τ sig Unit (Elt F) ℕ UU ℕ)} {R : sProp (MT nD τ sig Unit (Elt F) ℕ UU ℕ)}

/-- The device numbers the body computes are `c + 1`, …, `c + 15`. -/
theorem dev_to {n : ℕ} {h : n < 16} (r : Fin 15) (e : n = (c.val + (r.val + 1)) % 16) : (⟨n, h⟩ : Dev nD) = toD c r :=
  Fin.ext (by show n = (c.val + r.val + 1) % 16; rw [e, Nat.add_assoc])

/-- A resource brought to the front. -/
theorem front2 {A B P : sProp 𝕄} (h : iprop(B ∗ A ∗ R) ⊢ P) : iprop(A ∗ B ∗ R) ⊢ P :=
  (show iprop(A ∗ B ∗ R) ⊢ iprop(B ∗ A ∗ R) from by
    iintro ⟨HA, HB, HR⟩
    isplitl [HB]; · iexact HB
    isplitl [HA] <;> iassumption).trans h
theorem front3 {A B C P : sProp 𝕄} (h : iprop(C ∗ A ∗ B ∗ R) ⊢ P) : iprop(A ∗ B ∗ C ∗ R) ⊢ P :=
  (show iprop(A ∗ B ∗ C ∗ R) ⊢ iprop(C ∗ A ∗ B ∗ R) from by
    iintro ⟨HA, HB, HC, HR⟩
    isplitl [HC]; · iexact HC
    isplitl [HA]; · iexact HA
    isplitl [HB] <;> iassumption).trans h
theorem front4 {A B C D P : sProp 𝕄} (h : iprop(D ∗ A ∗ B ∗ C ∗ R) ⊢ P) : iprop(A ∗ B ∗ C ∗ D ∗ R) ⊢ P :=
  (show iprop(A ∗ B ∗ C ∗ D ∗ R) ⊢ iprop(D ∗ A ∗ B ∗ C ∗ R) from by
    iintro ⟨HA, HB, HC, HD, HR⟩
    isplitl [HD]; · iexact HD
    isplitl [HA]; · iexact HA
    isplitl [HB]; · iexact HB
    isplitl [HC] <;> iassumption).trans h

/-- The receive semaphore a transfer of `c` arrives on is number `c`; -/
theorem recvQ_own : ((cc0_scratch2.slice (Rect.unit (s := S16) (k0_off3 c) S1.size (k0_off3_inb c))).squeeze S_ squeezes_S1_S_).sem = recvQ c := by
  revert c; decide +kernel
/-- the one waited on in the `r`-th landing wait is the sender's. -/
theorem recvQ_from (r : Fin 15) : ((cc0_scratch2.slice (Rect.unit (s := S16) (k0_off6 c (BitVec.ofNat 32 (1 + r.val))) S1.size (k0_off6_inb c r))).squeeze S_ squeezes_S1_S_).sem
    = recvQ (frD c r) := by
  revert c r; decide +kernel

/-- A transfer of one block credits the same amount at every place. -/
theorem oSl_credit (off : Fin 2 → ℕ) (inb) : (oSl off inb).view.dmaCredit = N := rfl
theorem sSl_credit (off : Fin 3 → ℕ) (inb) : (sSl off inb).view.dmaCredit = N := rfl

/-! ## From one stage to the next -/

/-- The duties of the fifteen transfers. -/
def sendToks : sProp 𝕄 :=
  bigSep Finset.univ fun r : Fin 15 => iprop(dutyTok ER (sendCell c (sIx r)) 0 c ∗ dutyTok ER (recvCell (toD c r) c) 0 c)
/-- The fifteen landings to be waited for; the fifteen that have been. -/
def recvAll : sProp 𝕄 := bigSep Finset.univ fun r : Fin 15 => recvNeed c r
def gotAll : sProp 𝕄 := bigSep Finset.univ fun r : Fin 15 => recvGot m ρ c r
/-- The fifteen sources to be waited for. -/
def backAll : sProp 𝕄 := bigSep Finset.univ fun r : Fin 15 => backNeed c r
/-- The positions of the fifteen send cells, and the credit of the transfers. -/
def sendAts : sProp 𝕄 := bigSep Finset.univ fun r : Fin 15 => atPos ER (sendCell c (sIx r)) 0 ∅ 0

/-- All slices stored and the barrier passed, the transfers may start. -/
theorem turn_send (f : Buf (Elt F) ((c : Thread nD τ).loc cc0_stg2_0)) :
    iprop(ScrSt m ρ c 16 ∗ BarSt m ρ K c ∗ sendToks c ∗ oBlk c c f ∗ R)
      ⊢ iprop(sBlk c c (scrAt m ρ c) ∗ oBlk c c f ∗ SendSt m ρ K c 0 ∗ semVal (barCell c) 0 ∗ R) := by
  unfold BarSt sendToks SendSt
  rw [← todo_zero, done_zero]
  unfold sendNeed
  rw [bigSep_sep', bigSep_sep', bigSep_sep', bigSep_sep']
  iintro ⟨Hs, ⟨#Hr, HO, Hz, Ho⟩, ⟨Ht, Ht'⟩, Hoc, HR⟩
  ihave Hss := (scr_full m ρ c) $$ Hs
  icases Hss with ⟨Hsc, Hss⟩
  isplitl [Hsc]; · iexact Hsc
  isplitl [Hoc]; · iexact Hoc
  isplitl [Hss HO Ho Ht Ht']
  · isplitr; · iexact Hr
    isplitl [HO]; · iexact HO
    isplitl
    · isplitl [Hss]; · iexact Hss
      isplitl [Ho]; · iexact Ho
      isplitl [Ht] <;> iassumption
    iempintro
  isplitl [Hz] <;> iassumption

/-- All transfers started, the device owes nothing more. -/
theorem turn_recv : iprop(SendSt m ρ K c 15 ∗ recvAll c ∗ sendAts c ∗ R) ⊢ iprop(RecvSt m ρ K c 0 ∗ backAll c ∗ R) := by
  unfold SendSt RecvSt recvAll sendAts backAll backNeed
  rw [← todo_zero, done_zero, done_all, owed_none, bigSep_sep']
  iintro ⟨⟨#Hr, HO, -, Hc⟩, Hn, Ha, HR⟩
  isplitl [HO Hn]
  · isplitr; · iexact Hr
    isplitl [HO]; · iexact HO
    isplitl [Hn]; · iexact Hn
    iempintro
  isplitr [HR]
  · isplitl [Hc] <;> iassumption
  iexact HR

/-- All slices landed. -/
theorem turn_back : iprop(RecvSt m ρ K c 15 ∗ backAll c ∗ R) ⊢ iprop(BackSt m ρ K c 0 ∗ gotAll m ρ c ∗ R) := by
  unfold BackSt RecvSt gotAll backAll
  rw [← todo_zero, done_zero, done_all]
  iintro ⟨⟨#Hr, HO, -, Hg⟩, Hn, HR⟩
  isplitl [HO Hn]
  · isplitr; · iexact Hr
    isplitl [HO]; · iexact HO
    isplitl [Hn]; · iexact Hn
    iempintro
  isplitl [Hg] <;> iassumption

/-! ## The parts of the program text -/

/-- Five signals. -/
theorem part1_runs (f : Buf (Elt F) ((c : Thread nD τ).loc cc0_stg2_0)) {k : (Σ' (d0 : Dev nD) (v2 : BitVec 32) (v3 : Sems sig S_) (v24 : BitVec 32), BitVec 32) → Prog (TpuEff nD τ sig (Elt F) Λ₀ .tc) α}
    (h : ∀ v2 v24 c16, iprop(SigSt m ρ K c f 5 ∗ R) ⊢ runs c (k ⟨c, v2, SemArray.scalar (sig.barrier 0 rfl), v24, c16⟩) Q) :
    iprop(SigSt m ρ K c f 0 ∗ R) ⊢ runs c (k0_part1 xM (Memref.isWhole_whole _) wM (Memref.isWhole_whole _) oM (Memref.isWhole_whole _)
      scM (Memref.isWhole_whole _) cc0_scratch1 cc0_scratch2 >>= k) Q := by
  simp only [k0_part1_eq_skeleton]; unfold k0_part1_skel
  simp only [semSignalWord, semWaitWord, Prog.lift, Prog.bind_op, Prog.bind_ret, Prog.pure_eq_ret, wp_deviceId]
  refine sig_step m ρ K c f 0 0 rfl (dev_to c 0 (k0_dev1_eq c)) (by decide) ?_
  refine sig_step m ρ K c f 1 1 rfl (dev_to c 1 (k0_dev2_eq c)) (by decide) ?_
  refine sig_step m ρ K c f 2 2 rfl (dev_to c 2 (k0_dev3_eq c)) (by decide) ?_
  refine sig_step m ρ K c f 3 3 rfl (dev_to c 3 (k0_dev4_eq c)) (by decide) ?_
  refine sig_step m ρ K c f 4 4 rfl (dev_to c 4 (k0_dev5_eq c)) (by decide) ?_
  exact h _ _ _

/-- Six signals. -/
theorem part2_runs (f : Buf (Elt F) ((c : Thread nD τ).loc cc0_stg2_0)) (v2 v24 c16 : BitVec 32) {k : (Σ' (v48 : BitVec 32), BitVec 32) → Prog (TpuEff nD τ sig (Elt F) Λ₀ .tc) α}
    (h : ∀ v48 c16, iprop(SigSt m ρ K c f 11 ∗ R) ⊢ runs c (k ⟨v48, c16⟩) Q) :
    iprop(SigSt m ρ K c f 5 ∗ R) ⊢ runs c (k0_part2 xM (Memref.isWhole_whole _) wM (Memref.isWhole_whole _) oM (Memref.isWhole_whole _)
      scM (Memref.isWhole_whole _) cc0_scratch1 cc0_scratch2 c v2 (SemArray.scalar (sig.barrier 0 rfl)) v24 c16 >>= k) Q := by
  simp only [k0_part2_eq_skeleton]; unfold k0_part2_skel
  simp only [semSignalWord, semWaitWord, Prog.lift, Prog.bind_op, Prog.bind_ret, Prog.pure_eq_ret, wp_deviceId]
  refine sig_step m ρ K c f 5 5 rfl (dev_to c 5 (k0_dev6_eq c)) (by decide) ?_
  refine sig_step m ρ K c f 6 6 rfl (dev_to c 6 (k0_dev7_eq c)) (by decide) ?_
  refine sig_step m ρ K c f 7 7 rfl (dev_to c 7 (k0_dev8_eq c)) (by decide) ?_
  refine sig_step m ρ K c f 8 8 rfl (dev_to c 8 (k0_dev9_eq c)) (by decide) ?_
  refine sig_step m ρ K c f 9 9 rfl (dev_to c 9 (k0_dev10_eq c)) (by decide) ?_
  refine sig_step m ρ K c f 10 10 rfl (dev_to c 10 (k0_dev11_eq c)) (by decide) ?_
  exact h _ _

/-- Four signals, the wait for fifteen, and the loads of the two operands. -/
theorem part3_runs (f : Buf (Elt F) ((c : Thread nD τ).loc cc0_stg2_0)) (v2 v48 c16 : BitVec 32) {k : (Σ' (v71 : FVec F S64x1024 .bf16), FVec F S1x64x64 .bf16) → Prog (TpuEff nD τ sig (Elt F) Λ₀ .tc) α}
    (h : iprop(ScrSt m ρ c 0 ∗ wPts m ρ c ∗ xPts m ρ c ∗ BarSt m ρ K c ∗ R)
      ⊢ runs c (k ⟨rowsAt m ρ c, k0_pay2 (xstg m ρ c) (wstg m ρ c)⟩) Q) :
    iprop(SigSt m ρ K c f 11 ∗ barNeed c ∗ xPts m ρ c ∗ wPts m ρ c ∗ ScrSt m ρ c 0 ∗ R)
      ⊢ runs c (k0_part3 xM (Memref.isWhole_whole _) wM (Memref.isWhole_whole _) oM (Memref.isWhole_whole _)
      scM (Memref.isWhole_whole _) cc0_scratch1 cc0_scratch2 c v2 (SemArray.scalar (sig.barrier 0 rfl)) v48 c16 >>= k) Q := by
  simp only [k0_part3_eq_skeleton]; unfold k0_part3_skel
  simp only [semSignalWord, semWaitWord, Prog.lift, Prog.bind_op, Prog.bind_ret, Prog.pure_eq_ret, wp_deviceId]
  refine sig_step m ρ K c f 11 11 rfl (dev_to c 11 (k0_dev12_eq c)) (by decide) ?_
  refine sig_step m ρ K c f 12 12 rfl (dev_to c 12 (k0_dev13_eq c)) (by decide) ?_
  refine sig_step m ρ K c f 13 13 rfl (dev_to c 13 (k0_dev14_eq c)) (by decide) ?_
  refine sig_step m ρ K c f 14 14 rfl (dev_to c 14 (k0_dev15_eq c)) (by decide) ?_
  refine bar_step m ρ K c f (by decide) ?_
  refine front2 (load_x m ρ c ?_)
  refine front3 (load_w m ρ c ?_)
  refine front4 (scr_load m ρ c 0 fun _ => ?_)
  exact h

/-- Slices 0 to 7 stored. -/
theorem part4_runs {k : (FVec F S64x64 .bf16) → Prog (TpuEff nD τ sig (Elt F) Λ₀ .tc) α}
    (h : iprop(ScrSt m ρ c 8 ∗ R) ⊢ runs c (k (k0_pay10 (rowsAt m ρ c))) Q) :
    iprop(ScrSt m ρ c 0 ∗ R) ⊢ runs c (k0_part4 xM (Memref.isWhole_whole _) wM (Memref.isWhole_whole _) oM (Memref.isWhole_whole _)
      scM (Memref.isWhole_whole _) cc0_scratch1 cc0_scratch2 (rowsAt m ρ c) (k0_pay2 (xstg m ρ c) (wstg m ρ c)) >>= k) Q := by
  simp only [k0_part4_eq_skeleton]; unfold k0_part4_skel
  simp only [semSignalWord, semWaitWord, Prog.lift, Prog.bind_op, Prog.bind_ret, Prog.pure_eq_ret, wp_deviceId]
  refine scr_store m ρ c 0 (by decide) (slice_pay m ρ c 0 rfl _ _) ?_
  refine scr_load m ρ c 1 fun _ => ?_
  refine scr_store m ρ c 1 (by decide) (slice_pay m ρ c 1 rfl _ _) ?_
  refine scr_load m ρ c 2 fun _ => ?_
  refine scr_store m ρ c 2 (by decide) (slice_pay m ρ c 2 rfl _ _) ?_
  refine scr_load m ρ c 3 fun _ => ?_
  refine scr_store m ρ c 3 (by decide) (slice_pay m ρ c 3 rfl _ _) ?_
  refine scr_load m ρ c 4 fun _ => ?_
  refine scr_store m ρ c 4 (by decide) (slice_pay m ρ c 4 rfl _ _) ?_
  refine scr_load m ρ c 5 fun _ => ?_
  refine scr_store m ρ c 5 (by decide) (slice_pay m ρ c 5 rfl _ _) ?_
  refine scr_load m ρ c 6 fun _ => ?_
  refine scr_store m ρ c 6 (by decide) (slice_pay m ρ c 6 rfl _ _) ?_
  refine scr_load m ρ c 7 fun _ => ?_
  refine scr_store m ρ c 7 (by decide) (slice_pay m ρ c 7 rfl _ _) ?_
  exact h

/-- Slices 8 to 14 stored. -/
theorem part5_runs {k : (FVec F S1x64x64 .bf16) → Prog (TpuEff nD τ sig (Elt F) Λ₀ .tc) α}
    (h : iprop(ScrSt m ρ c 15 ∗ R) ⊢ runs c (k (k0_pay18 (rowsAt m ρ c))) Q) :
    iprop(ScrSt m ρ c 8 ∗ R) ⊢ runs c (k0_part5 xM (Memref.isWhole_whole _) wM (Memref.isWhole_whole _) oM (Memref.isWhole_whole _)
      scM (Memref.isWhole_whole _) cc0_scratch1 cc0_scratch2 (rowsAt m ρ c) (k0_pay10 (rowsAt m ρ c)) >>= k) Q := by
  simp only [k0_part5_eq_skeleton]; unfold k0_part5_skel
  simp only [semSignalWord, semWaitWord, Prog.lift, Prog.bind_op, Prog.bind_ret, Prog.pure_eq_ret, wp_deviceId]
  refine scr_load m ρ c 8 fun _ => ?_
  refine scr_store m ρ c 8 (by decide) (slice_pay m ρ c 8 rfl slices_S64x1024_o0_512_S64x64 shapeCasts_S64x64_S1x64x64) ?_
  refine scr_load m ρ c 9 fun _ => ?_
  refine scr_store m ρ c 9 (by decide) (slice_pay m ρ c 9 rfl _ _) ?_
  refine scr_load m ρ c 10 fun _ => ?_
  refine scr_store m ρ c 10 (by decide) (slice_pay m ρ c 10 rfl _ _) ?_
  refine scr_load m ρ c 11 fun _ => ?_
  refine scr_store m ρ c 11 (by decide) (slice_pay m ρ c 11 rfl _ _) ?_
  refine scr_load m ρ c 12 fun _ => ?_
  refine scr_store m ρ c 12 (by decide) (slice_pay m ρ c 12 rfl _ _) ?_
  refine scr_load m ρ c 13 fun _ => ?_
  refine scr_store m ρ c 13 (by decide) (slice_pay m ρ c 13 rfl _ _) ?_
  refine scr_load m ρ c 14 fun _ => ?_
  refine scr_store m ρ c 14 (by decide) (slice_pay m ρ c 14 rfl _ _) ?_
  refine scr_load m ρ c 15 fun _ => ?_
  exact h

/-- Slice 15 stored, the own slice written to the result, and two transfers. -/
theorem part6_runs (f : Buf (Elt F) ((c : Thread nD τ).loc cc0_stg2_0)) (v2 : BitVec 32) {k : (BitVec 32) → Prog (TpuEff nD τ sig (Elt F) Λ₀ .tc) α}
    (h : ∀ v, iprop(SendSt m ρ K c 2 ∗ sBlk c c (scrAt m ρ c) ∗ oBlk c c (outAt m ρ c) ∗ semVal (barCell c) 0 ∗ R) ⊢ runs c (k v) Q) :
    iprop(ScrSt m ρ c 15 ∗ BarSt m ρ K c ∗ sendToks c ∗ oBlk c c f ∗ R)
      ⊢ runs c (k0_part6 xM (Memref.isWhole_whole _) wM (Memref.isWhole_whole _) oM (Memref.isWhole_whole _)
      scM (Memref.isWhole_whole _) cc0_scratch1 cc0_scratch2 c v2 (k0_pay18 (rowsAt m ρ c)) >>= k) Q := by
  simp only [k0_part6_eq_skeleton]; unfold k0_part6_skel
  simp only [semSignalWord, semWaitWord, Prog.lift, Prog.bind_op, Prog.bind_ret, Prog.pure_eq_ret, wp_deviceId]
  refine scr_store m ρ c 15 (by decide) (slice_pay m ρ c 15 rfl _ _) ?_
  refine (turn_send m ρ K c f).trans ?_
  refine own_step m ρ c (k0_off1_eq c) (k0_off2_eq c) f ?_
  refine front3 ?_
  refine send_step m ρ K c 0 0 rfl (dev_to c 0 (k0_dev16_eq c)) (k0_off5_eq c 0) (k0_off4_eq c) (by decide +kernel) (recvQ_own c) ?_
  refine send_step m ρ K c 1 1 rfl (dev_to c 1 (k0_dev17_eq c)) (k0_off5_eq c 1) (k0_off4_eq c) (by decide +kernel) (recvQ_own c) ?_
  exact h _

/-- Two transfers. -/
theorem part7_runs (v2 v167 : BitVec 32) {k : (PUnit) → Prog (TpuEff nD τ sig (Elt F) Λ₀ .tc) α}
    (h : iprop(SendSt m ρ K c 4 ∗ R) ⊢ runs c (k ⟨⟩) Q) :
    iprop(SendSt m ρ K c 2 ∗ R) ⊢ runs c (k0_part7 xM (Memref.isWhole_whole _) wM (Memref.isWhole_whole _) oM (Memref.isWhole_whole _)
      scM (Memref.isWhole_whole _) cc0_scratch1 cc0_scratch2 c v2 v167 >>= k) Q := by
  simp only [k0_part7_eq_skeleton]; unfold k0_part7_skel
  simp only [semSignalWord, semWaitWord, Prog.lift, Prog.bind_op, Prog.bind_ret, Prog.pure_eq_ret, wp_deviceId]
  refine send_step m ρ K c 2 2 rfl (dev_to c 2 (k0_dev18_eq c)) (k0_off5_eq c 2) (k0_off4_eq c) (by decide +kernel) (recvQ_own c) ?_
  refine send_step m ρ K c 3 3 rfl (dev_to c 3 (k0_dev19_eq c)) (k0_off5_eq c 3) (k0_off4_eq c) (by decide +kernel) (recvQ_own c) ?_
  exact h

/-- Three transfers. -/
theorem part8_runs (v2 : BitVec 32) {k : (PUnit) → Prog (TpuEff nD τ sig (Elt F) Λ₀ .tc) α}
    (h : iprop(SendSt m ρ K c 7 ∗ R) ⊢ runs c (k ⟨⟩) Q) :
    iprop(SendSt m ρ K c 4 ∗ R) ⊢ runs c (k0_part8 xM (Memref.isWhole_whole _) wM (Memref.isWhole_whole _) oM (Memref.isWhole_whole _)
      scM (Memref.isWhole_whole _) cc0_scratch1 cc0_scratch2 c v2 >>= k) Q := by
  simp only [k0_part8_eq_skeleton]; unfold k0_part8_skel
  simp only [semSignalWord, semWaitWord, Prog.lift, Prog.bind_op, Prog.bind_ret, Prog.pure_eq_ret, wp_deviceId]
  refine send_step m ρ K c 4 4 rfl (dev_to c 4 (k0_dev20_eq c)) (k0_off5_eq c 4) (k0_off4_eq c) (by decide +kernel) (recvQ_own c) ?_
  refine send_step m ρ K c 5 5 rfl (dev_to c 5 (k0_dev21_eq c)) (k0_off5_eq c 5) (k0_off4_eq c) (by decide +kernel) (recvQ_own c) ?_
  refine send_step m ρ K c 6 6 rfl (dev_to c 6 (k0_dev22_eq c)) (k0_off5_eq c 6) (k0_off4_eq c) (by decide +kernel) (recvQ_own c) ?_
  exact h

/-- Three transfers. -/
theorem part9_runs (v2 : BitVec 32) {k : (Σ' (v263 : BitVec 32), BitVec 32) → Prog (TpuEff nD τ sig (Elt F) Λ₀ .tc) α}
    (h : ∀ v w, iprop(SendSt m ρ K c 10 ∗ R) ⊢ runs c (k ⟨v, w⟩) Q) :
    iprop(SendSt m ρ K c 7 ∗ R) ⊢ runs c (k0_part9 xM (Memref.isWhole_whole _) wM (Memref.isWhole_whole _) oM (Memref.isWhole_whole _)
      scM (Memref.isWhole_whole _) cc0_scratch1 cc0_scratch2 c v2 >>= k) Q := by
  simp only [k0_part9_eq_skeleton]; unfold k0_part9_skel
  simp only [semSignalWord, semWaitWord, Prog.lift, Prog.bind_op, Prog.bind_ret, Prog.pure_eq_ret, wp_deviceId]
  refine send_step m ρ K c 7 7 rfl (dev_to c 7 (k0_dev23_eq c)) (k0_off5_eq c 7) (k0_off4_eq c) (by decide +kernel) (recvQ_own c) ?_
  refine send_step m ρ K c 8 8 rfl (dev_to c 8 (k0_dev24_eq c)) (k0_off5_eq c 8) (k0_off4_eq c) (by decide +kernel) (recvQ_own c) ?_
  refine send_step m ρ K c 9 9 rfl (dev_to c 9 (k0_dev25_eq c)) (k0_off5_eq c 9) (k0_off4_eq c) (by decide +kernel) (recvQ_own c) ?_
  exact h _ _

/-- Three transfers. -/
theorem part10_runs (v2 v263 c1 : BitVec 32) {k : (BitVec 32) → Prog (TpuEff nD τ sig (Elt F) Λ₀ .tc) α}
    (h : ∀ v, iprop(SendSt m ρ K c 13 ∗ R) ⊢ runs c (k v) Q) :
    iprop(SendSt m ρ K c 10 ∗ R) ⊢ runs c (k0_part10 xM (Memref.isWhole_whole _) wM (Memref.isWhole_whole _) oM (Memref.isWhole_whole _)
      scM (Memref.isWhole_whole _) cc0_scratch1 cc0_scratch2 c v2 v263 c1 >>= k) Q := by
  simp only [k0_part10_eq_skeleton]; unfold k0_part10_skel
  simp only [semSignalWord, semWaitWord, Prog.lift, Prog.bind_op, Prog.bind_ret, Prog.pure_eq_ret, wp_deviceId]
  refine send_step m ρ K c 10 10 rfl (dev_to c 10 (k0_dev26_eq c)) (k0_off5_eq c 10) (k0_off4_eq c) (by decide +kernel) (recvQ_own c) ?_
  refine send_step m ρ K c 11 11 rfl (dev_to c 11 (k0_dev27_eq c)) (k0_off5_eq c 11) (k0_off4_eq c) (by decide +kernel) (recvQ_own c) ?_
  refine send_step m ρ K c 12 12 rfl (dev_to c 12 (k0_dev28_eq c)) (k0_off5_eq c 12) (k0_off4_eq c) (by decide +kernel) (recvQ_own c) ?_
  exact h _

/-- Two transfers. -/
theorem part11_runs (v2 v298 : BitVec 32) {k : (PUnit) → Prog (TpuEff nD τ sig (Elt F) Λ₀ .tc) α}
    (h : iprop(SendSt m ρ K c 15 ∗ R) ⊢ runs c (k ⟨⟩) Q) :
    iprop(SendSt m ρ K c 13 ∗ R) ⊢ runs c (k0_part11 xM (Memref.isWhole_whole _) wM (Memref.isWhole_whole _) oM (Memref.isWhole_whole _)
      scM (Memref.isWhole_whole _) cc0_scratch1 cc0_scratch2 c v2 v298 >>= k) Q := by
  simp only [k0_part11_eq_skeleton]; unfold k0_part11_skel
  simp only [semSignalWord, semWaitWord, Prog.lift, Prog.bind_op, Prog.bind_ret, Prog.pure_eq_ret, wp_deviceId]
  refine send_step m ρ K c 13 13 rfl (dev_to c 13 (k0_dev29_eq c)) (k0_off5_eq c 13) (k0_off4_eq c) (by decide +kernel) (recvQ_own c) ?_
  refine send_step m ρ K c 14 14 rfl (dev_to c 14 (k0_dev30_eq c)) (k0_off5_eq c 14) (k0_off4_eq c) (by decide +kernel) (recvQ_own c) ?_
  exact h

/-- Three landings. -/
theorem part12_runs (v2 : BitVec 32) {k : (BitVec 32) → Prog (TpuEff nD τ sig (Elt F) Λ₀ .tc) α}
    (h : ∀ v, iprop(RecvSt m ρ K c 3 ∗ R) ⊢ runs c (k v) Q) :
    iprop(RecvSt m ρ K c 0 ∗ R) ⊢ runs c (k0_part12 xM (Memref.isWhole_whole _) wM (Memref.isWhole_whole _) oM (Memref.isWhole_whole _)
      scM (Memref.isWhole_whole _) cc0_scratch1 cc0_scratch2 c v2 >>= k) Q := by
  simp only [k0_part12_eq_skeleton]; unfold k0_part12_skel
  simp only [semSignalWord, semWaitWord, Prog.lift, Prog.bind_op, Prog.bind_ret, Prog.pure_eq_ret, wp_deviceId]
  refine recv_step m ρ K c 0 0 rfl (recvQ_from c 0) (oSl_credit _ _) ?_
  refine recv_step m ρ K c 1 1 rfl (recvQ_from c 1) (oSl_credit _ _) ?_
  refine recv_step m ρ K c 2 2 rfl (recvQ_from c 2) (oSl_credit _ _) ?_
  exact h _

/-- Three landings. -/
theorem part13_runs (v2 v357 : BitVec 32) {k : (PUnit) → Prog (TpuEff nD τ sig (Elt F) Λ₀ .tc) α}
    (h : iprop(RecvSt m ρ K c 6 ∗ R) ⊢ runs c (k ⟨⟩) Q) :
    iprop(RecvSt m ρ K c 3 ∗ R) ⊢ runs c (k0_part13 xM (Memref.isWhole_whole _) wM (Memref.isWhole_whole _) oM (Memref.isWhole_whole _)
      scM (Memref.isWhole_whole _) cc0_scratch1 cc0_scratch2 c v2 v357 >>= k) Q := by
  simp only [k0_part13_eq_skeleton]; unfold k0_part13_skel
  simp only [semSignalWord, semWaitWord, Prog.lift, Prog.bind_op, Prog.bind_ret, Prog.pure_eq_ret, wp_deviceId]
  refine recv_step m ρ K c 3 3 rfl (recvQ_from c 3) (oSl_credit _ _) ?_
  refine recv_step m ρ K c 4 4 rfl (recvQ_from c 4) (oSl_credit _ _) ?_
  refine recv_step m ρ K c 5 5 rfl (recvQ_from c 5) (oSl_credit _ _) ?_
  exact h

/-- Two landings. -/
theorem part14_runs (v2 : BitVec 32) {k : (PUnit) → Prog (TpuEff nD τ sig (Elt F) Λ₀ .tc) α}
    (h : iprop(RecvSt m ρ K c 8 ∗ R) ⊢ runs c (k ⟨⟩) Q) :
    iprop(RecvSt m ρ K c 6 ∗ R) ⊢ runs c (k0_part14 xM (Memref.isWhole_whole _) wM (Memref.isWhole_whole _) oM (Memref.isWhole_whole _)
      scM (Memref.isWhole_whole _) cc0_scratch1 cc0_scratch2 c v2 >>= k) Q := by
  simp only [k0_part14_eq_skeleton]; unfold k0_part14_skel
  simp only [semSignalWord, semWaitWord, Prog.lift, Prog.bind_op, Prog.bind_ret, Prog.pure_eq_ret, wp_deviceId]
  refine recv_step m ρ K c 6 6 rfl (recvQ_from c 6) (oSl_credit _ _) ?_
  refine recv_step m ρ K c 7 7 rfl (recvQ_from c 7) (oSl_credit _ _) ?_
  exact h

/-- Three landings. -/
theorem part15_runs (v2 : BitVec 32) {k : (Σ' (v263 : BitVec 32), BitVec 32) → Prog (TpuEff nD τ sig (Elt F) Λ₀ .tc) α}
    (h : ∀ v w, iprop(RecvSt m ρ K c 11 ∗ R) ⊢ runs c (k ⟨v, w⟩) Q) :
    iprop(RecvSt m ρ K c 8 ∗ R) ⊢ runs c (k0_part15 xM (Memref.isWhole_whole _) wM (Memref.isWhole_whole _) oM (Memref.isWhole_whole _)
      scM (Memref.isWhole_whole _) cc0_scratch1 cc0_scratch2 c v2 >>= k) Q := by
  simp only [k0_part15_eq_skeleton]; unfold k0_part15_skel
  simp only [semSignalWord, semWaitWord, Prog.lift, Prog.bind_op, Prog.bind_ret, Prog.pure_eq_ret, wp_deviceId]
  refine recv_step m ρ K c 8 8 rfl (recvQ_from c 8) (oSl_credit _ _) ?_
  refine recv_step m ρ K c 9 9 rfl (recvQ_from c 9) (oSl_credit _ _) ?_
  refine recv_step m ρ K c 10 10 rfl (recvQ_from c 10) (oSl_credit _ _) ?_
  exact h _ _

/-- Two landings. -/
theorem part16_runs (v2 v444 c16 : BitVec 32) {k : (PUnit) → Prog (TpuEff nD τ sig (Elt F) Λ₀ .tc) α}
    (h : iprop(RecvSt m ρ K c 13 ∗ R) ⊢ runs c (k ⟨⟩) Q) :
    iprop(RecvSt m ρ K c 11 ∗ R) ⊢ runs c (k0_part16 xM (Memref.isWhole_whole _) wM (Memref.isWhole_whole _) oM (Memref.isWhole_whole _)
      scM (Memref.isWhole_whole _) cc0_scratch1 cc0_scratch2 c v2 v444 c16 >>= k) Q := by
  simp only [k0_part16_eq_skeleton]; unfold k0_part16_skel
  simp only [semSignalWord, semWaitWord, Prog.lift, Prog.bind_op, Prog.bind_ret, Prog.pure_eq_ret, wp_deviceId]
  refine recv_step m ρ K c 11 11 rfl (recvQ_from c 11) (oSl_credit _ _) ?_
  refine recv_step m ρ K c 12 12 rfl (recvQ_from c 12) (oSl_credit _ _) ?_
  exact h

/-- The last two landings, and two sources. -/
theorem part17_runs (v2 : BitVec 32) {k : (PUnit) → Prog (TpuEff nD τ sig (Elt F) Λ₀ .tc) α}
    (h : iprop(BackSt m ρ K c 2 ∗ gotAll m ρ c ∗ R) ⊢ runs c (k ⟨⟩) Q) :
    iprop(RecvSt m ρ K c 13 ∗ backAll c ∗ R) ⊢ runs c (k0_part17 xM (Memref.isWhole_whole _) wM (Memref.isWhole_whole _) oM (Memref.isWhole_whole _)
      scM (Memref.isWhole_whole _) cc0_scratch1 cc0_scratch2 c v2 >>= k) Q := by
  simp only [k0_part17_eq_skeleton]; unfold k0_part17_skel
  simp only [semSignalWord, semWaitWord, Prog.lift, Prog.bind_op, Prog.bind_ret, Prog.pure_eq_ret, wp_deviceId]
  refine recv_step m ρ K c 13 13 rfl (recvQ_from c 13) (oSl_credit _ _) ?_
  refine recv_step m ρ K c 14 14 rfl (recvQ_from c 14) (oSl_credit _ _) ?_
  refine (turn_back m ρ K c).trans ?_
  refine back_step m ρ K c 0 0 rfl (by decide +kernel) (sSl_credit _ _) ?_
  refine back_step m ρ K c 1 1 rfl (by decide +kernel) (sSl_credit _ _) ?_
  exact h

/-- Four sources. -/
theorem part18_runs {k : (PUnit) → Prog (TpuEff nD τ sig (Elt F) Λ₀ .tc) α}
    (h : iprop(BackSt m ρ K c 6 ∗ R) ⊢ runs c (k ⟨⟩) Q) :
    iprop(BackSt m ρ K c 2 ∗ R) ⊢ runs c (k0_part18 xM (Memref.isWhole_whole _) wM (Memref.isWhole_whole _) oM (Memref.isWhole_whole _)
      scM (Memref.isWhole_whole _) cc0_scratch1 cc0_scratch2 >>= k) Q := by
  simp only [k0_part18_eq_skeleton]; unfold k0_part18_skel
  simp only [semSignalWord, semWaitWord, Prog.lift, Prog.bind_op, Prog.bind_ret, Prog.pure_eq_ret, wp_deviceId]
  refine back_step m ρ K c 2 2 rfl (by decide +kernel) (sSl_credit _ _) ?_
  refine back_step m ρ K c 3 3 rfl (by decide +kernel) (sSl_credit _ _) ?_
  refine back_step m ρ K c 4 4 rfl (by decide +kernel) (sSl_credit _ _) ?_
  refine back_step m ρ K c 5 5 rfl (by decide +kernel) (sSl_credit _ _) ?_
  exact h

/-- Four sources. -/
theorem part19_runs {k : (PUnit) → Prog (TpuEff nD τ sig (Elt F) Λ₀ .tc) α}
    (h : iprop(BackSt m ρ K c 10 ∗ R) ⊢ runs c (k ⟨⟩) Q) :
    iprop(BackSt m ρ K c 6 ∗ R) ⊢ runs c (k0_part19 xM (Memref.isWhole_whole _) wM (Memref.isWhole_whole _) oM (Memref.isWhole_whole _)
      scM (Memref.isWhole_whole _) cc0_scratch1 cc0_scratch2 >>= k) Q := by
  simp only [k0_part19_eq_skeleton]; unfold k0_part19_skel
  simp only [semSignalWord, semWaitWord, Prog.lift, Prog.bind_op, Prog.bind_ret, Prog.pure_eq_ret, wp_deviceId]
  refine back_step m ρ K c 6 6 rfl (by decide +kernel) (sSl_credit _ _) ?_
  refine back_step m ρ K c 7 7 rfl (by decide +kernel) (sSl_credit _ _) ?_
  refine back_step m ρ K c 8 8 rfl (by decide +kernel) (sSl_credit _ _) ?_
  refine back_step m ρ K c 9 9 rfl (by decide +kernel) (sSl_credit _ _) ?_
  exact h

/-- Four sources. -/
theorem part20_runs {k : (PUnit) → Prog (TpuEff nD τ sig (Elt F) Λ₀ .tc) α}
    (h : iprop(BackSt m ρ K c 14 ∗ R) ⊢ runs c (k ⟨⟩) Q) :
    iprop(BackSt m ρ K c 10 ∗ R) ⊢ runs c (k0_part20 xM (Memref.isWhole_whole _) wM (Memref.isWhole_whole _) oM (Memref.isWhole_whole _)
      scM (Memref.isWhole_whole _) cc0_scratch1 cc0_scratch2 >>= k) Q := by
  simp only [k0_part20_eq_skeleton]; unfold k0_part20_skel
  simp only [semSignalWord, semWaitWord, Prog.lift, Prog.bind_op, Prog.bind_ret, Prog.pure_eq_ret, wp_deviceId]
  refine back_step m ρ K c 10 10 rfl (by decide +kernel) (sSl_credit _ _) ?_
  refine back_step m ρ K c 11 11 rfl (by decide +kernel) (sSl_credit _ _) ?_
  refine back_step m ρ K c 12 12 rfl (by decide +kernel) (sSl_credit _ _) ?_
  refine back_step m ρ K c 13 13 rfl (by decide +kernel) (sSl_credit _ _) ?_
  exact h

/-! ## The body -/

/-- What the body starts from, besides the operands' and the scratch buffer's contents. -/
def bodyStart (f : Buf (Elt F) ((c : Thread nD τ).loc cc0_stg2_0)) : sProp 𝕄 :=
  iprop(SigSt m ρ K c f 0 ∗ barNeed c ∗ xPts m ρ c ∗ wPts m ρ c ∗ ScrSt m ρ c 0 ∗ sendToks c ∗ oBlk c c f ∗ recvAll c ∗ sendAts c)
/-- What it ends with. -/
def bodyEnd : sProp 𝕄 :=
  iprop(BackSt m ρ K c 15 ∗ gotAll m ρ c ∗ sBlk c c (scrAt m ρ c) ∗ oBlk c c (outAt m ρ c) ∗ semVal (barCell c) 0 ∗ wPts m ρ c ∗ xPts m ρ c)

/-- The whole body. -/
theorem body_runs (f : Buf (Elt F) ((c : Thread nD τ).loc cc0_stg2_0)) {Q : PUnit → sProp 𝕄}
    (h : iprop(bodyEnd m ρ K c ∗ R) ⊢ |={Set.univ}=> Q ⟨⟩) :
    iprop(bodyStart m ρ K c f ∗ R) ⊢ runs c (cc0_body xM (Memref.isWhole_whole _) wM (Memref.isWhole_whole _) oM (Memref.isWhole_whole _)
      scM (Memref.isWhole_whole _) cc0_scratch1 cc0_scratch2) Q := by
  simp only [cc0_body_eq_skeleton]; unfold cc0_body_skel
  refine (show _ ⊢ iprop(SigSt m ρ K c f 0 ∗ barNeed c ∗ xPts m ρ c ∗ wPts m ρ c ∗ ScrSt m ρ c 0 ∗ sendToks c ∗ oBlk c c f ∗ recvAll c ∗ sendAts c ∗ R) from by
    unfold bodyStart
    iintro ⟨⟨H1, H2, H3, H4, H5, H6, H7, H8, H9⟩, HR⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption).trans ?_
  refine part1_runs m ρ K c f fun v2 v24 c16 => ?_
  refine part2_runs m ρ K c f v2 v24 c16 fun v48 c16 => ?_
  refine part3_runs m ρ K c f v2 v48 c16 ?_
  refine part4_runs m ρ c ?_
  refine part5_runs m ρ c ?_
  refine (show iprop(ScrSt m ρ c 15 ∗ wPts m ρ c ∗ xPts m ρ c ∗ BarSt m ρ K c ∗ sendToks c ∗ oBlk c c f ∗ recvAll c ∗ sendAts c ∗ R)
    ⊢ iprop(ScrSt m ρ c 15 ∗ BarSt m ρ K c ∗ sendToks c ∗ oBlk c c f ∗ recvAll c ∗ sendAts c ∗ wPts m ρ c ∗ xPts m ρ c ∗ R) from by
    iintro ⟨H1, H2, H3, H4, H5, H6, H7, H8, HR⟩
    isplitl [H1]; · iexact H1
    isplitl [H4]; · iexact H4
    isplitl [H5]; · iexact H5
    isplitl [H6]; · iexact H6
    isplitl [H7]; · iexact H7
    isplitl [H8]; · iexact H8
    isplitl [H2]; · iexact H2
    isplitl [H3] <;> iassumption).trans ?_
  refine part6_runs m ρ K c f v2 fun v167 => ?_
  refine part7_runs m ρ K c v2 v167 ?_
  refine part8_runs m ρ K c v2 ?_
  refine part9_runs m ρ K c v2 fun v263 c1 => ?_
  refine part10_runs m ρ K c v2 v263 c1 fun v298 => ?_
  refine part11_runs m ρ K c v2 v298 ?_
  refine (show _ ⊢ iprop(SendSt m ρ K c 15 ∗ recvAll c ∗ sendAts c ∗ sBlk c c (scrAt m ρ c) ∗ oBlk c c (outAt m ρ c) ∗ semVal (barCell c) 0 ∗ wPts m ρ c ∗ xPts m ρ c ∗ R) from by
    iintro ⟨H1, H2, H3, H4, H5, H6, HR⟩
    isplitl [H1]; · iexact H1
    isplitl [H5]; · iexact H5
    isplitl [H6]; · iexact H6
    isplitl [H2]; · iexact H2
    isplitl [H3]; · iexact H3
    isplitl [H4] <;> iassumption).trans ?_
  refine (turn_recv m ρ K c).trans ?_
  refine part12_runs m ρ K c v2 fun v357 => ?_
  refine part13_runs m ρ K c v2 v357 ?_
  refine part14_runs m ρ K c v2 ?_
  refine part15_runs m ρ K c v2 fun v444 c16 => ?_
  refine part16_runs m ρ K c v2 v444 c16 ?_
  refine part17_runs m ρ K c v2 ?_
  refine part18_runs m ρ K c ?_
  refine part19_runs m ρ K c ?_
  refine part20_runs m ρ K c ?_
  simp only [Prog.lift, Prog.bind_op, Prog.bind_ret, Prog.pure_eq_ret]
  refine back_step m ρ K c 14 14 rfl (by decide +kernel) (sSl_credit _ _) ?_
  refine (show _ ⊢ iprop(bodyEnd m ρ K c ∗ R) from by
    unfold bodyEnd
    iintro ⟨H1, H2, H3, H4, H5, H6, H7, HR⟩
    isplitr [HR]
    · isplitl [H1]; · iexact H1
      isplitl [H2]; · iexact H2
      isplitl [H3]; · iexact H3
      isplitl [H4]; · iexact H4
      isplitl [H5]; · iexact H5
      isplitl [H6] <;> iassumption
    iexact HR).trans (h.trans ?_)
  unfold runs
  rw [wp_ret]

end Parts

end Cert.KernelIdeal.Exchange

end
-- ==== Proof.KernelIdealRun.lean ====
/-
# The run

From the body at one device to the sixteen devices running together: what each device holds when the kernel starts and
when it ends, how the semaphores and the duties are dealt out, and the run of the whole program, which ends with every
device's arguments as they were, its result holding the stacked slices, and every semaphore at zero.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after the kernel -/

/-- The duties device `c` pays: fifteen signals, and both ends of fifteen transfers. -/
def payToks (c : Dev nD) : sProp 𝕄 :=
  iprop((bigSep Finset.univ fun r : Fin 15 => dutyTok ER (barCell (toD c r)) 0 c) ∗ sendToks c)
/-- These, and where `c` stands at each of its own cells. -/
def linear (c : Dev nD) : sProp 𝕄 :=
  iprop((bigSep Finset.univ fun k : CIx => atPos ER (kcell (c, k)) 0 ∅ 0) ∗ payToks c)
/-- What `c` starts with. -/
def start (c : Dev nD) : sProp 𝕄 :=
  iprop((∃ K, records m ρ K ∗ linear c) ∗ cred (tallyAt (barCell c) () 15)
    ∗ (bigSep Finset.univ fun r : Fin 15 => cred (tallyAt (recvCell c (frD c r)) () N)) ∗ levAts L lv)
/-- Before the body: that, and the scratch buffer with any contents. -/
def before (c : Dev nD) : sProp 𝕄 := iprop(start m ρ c ∗ ∃ f, ((c : Thread nD τ).loc cc0_scratch0) ↦{fullShare} f)
/-- After it: the scratch buffer, and all of `c`'s semaphores at zero. -/
def after (c : Dev nD) : sProp 𝕄 :=
  iprop((((c : Thread nD τ).loc cc0_scratch0) ↦{fullShare} scrAt m ρ c) ∗ bigSep Finset.univ fun k : CIx => semVal (kcell (c, k)) 0)

/-- The proof data of the launch: arrays as they are, staged contents after the body, what a device holds and owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => before m ρ c
    | ⟨_ + 1, _⟩ => after m ρ c
  q _ := fullShare
  owed t := match t with
    | ⟨0, _⟩ => owed c 0 0
    | ⟨_ + 1, _⟩ => 0

/-- A device's cells: the barrier, the send cells (0 and the others), the receive cells (its own number and the others). -/
theorem cells_split (c : Dev nD) (Φ : GSem nD τ sig → sProp 𝕄) :
    (bigSep Finset.univ fun k : CIx => Φ (kcell (c, k)))
      = iprop(Φ (barCell c) ∗ (Φ (sendCell c 0) ∗ bigSep Finset.univ fun r : Fin 15 => Φ (sendCell c (sIx r)))
        ∗ (Φ (recvCell c c) ∗ bigSep Finset.univ fun r : Fin 15 => Φ (recvCell c (frD c r)))) := by
  have hs : (bigSep Finset.univ fun d : Fin 16 => Φ (sendCell c d))
      = iprop(Φ (sendCell c 0) ∗ bigSep Finset.univ fun r : Fin 15 => Φ (sendCell c (sIx r))) := by
    rw [own_apart (0 : Dev nD) fun d => Φ (sendCell c d), bigSep_toD (0 : Dev nD) fun d => Φ (sendCell c d)]
    exact congrArg _ (bigSep_congr fun r _ => by rw [show toD 0 r = sIx r by revert r; decide])
  have hr : (bigSep Finset.univ fun i : Fin 16 => Φ (recvCell c i))
      = iprop(Φ (recvCell c c) ∗ bigSep Finset.univ fun r : Fin 15 => Φ (recvCell c (frD c r))) := by
    rw [own_apart c fun i => Φ (recvCell c i), bigSep_frD c fun i => Φ (recvCell c i)]
  rw [bigSep_univ_sum, bigSep_univ_of_subsingleton (), bigSep_univ_sum, ← hs, ← hr]; rfl

/-! ## The body's obligation -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the launch hands the body, and what it expects back. -/
def bodyPre (c : Dev nD) : sProp 𝕄 :=
  iprop(before m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(after m ρ c ∗ (dats m ρ 0 c).owesAt () t0_0.succ ∗ stg c cc0_stg0_0 (xstg m ρ c) ∗ stg c cc0_stg1_0 (wstg m ρ c) ∗ stg c cc0_stg2_0 (outAt m ρ c))

/-- The two cells of a device that nobody uses, at their start. -/
def spare (c : Dev nD) : sProp 𝕄 := iprop(atPos ER (sendCell c 0) 0 ∅ 0 ∗ atPos ER (recvCell c c) 0 ∅ 0)

/-- What the launch hands over is what the body starts from. -/
theorem body_enter (c : Dev nD) : bodyPre m ρ c ⊢ iprop(∃ K f, bodyStart m ρ K c f ∗ records m ρ K ∗ spare c) := by
  unfold bodyPre before start linear payToks bodyStart SigSt sigNeed barNeed xPts wPts ScrSt recvAll recvNeed sendAts spare
  rw [cells_split c fun g => atPos ER g 0 ∅ 0]
  iintro ⟨⟨⟨⟨%K, #Hr, ⟨Hab, ⟨Has0, Has⟩, ⟨Harc, Har⟩⟩, Htb, Hts⟩, Hcb, Hcr, #Hlev⟩, ⟨%fs, Hscr⟩⟩,
    Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = owed c 0 0 from rfl]
  ihave Hout := (Entails.of_eq (oBlks_to c g2)) $$ Hout
  icases Hout with ⟨Hoc, Hot⟩
  iexists K
  iexists g2
  rw [← todo_zero, bigSep_sep', bigSep_sep']
  isplitr [Has0 Harc]
  · isplitl [HO Htb Hot]
    · isplitr; · iexact Hr
      isplitl [HO]; · iexists W; iexact HO
      isplitl [Htb] <;> iassumption
    isplitl [Hcb Hab]
    · isplitl [Hcb]; · iexact Hcb
      isplitl [Hab]; · iexact Hab
      iexact Hlev
    isplitl [Hx]; · iexact Hx
    isplitl [Hw]; · iexact Hw
    isplitl [Hscr]
    · iexists fs
      isplitr; · ipureintro; exact fun i hi => absurd hi (Nat.not_lt_zero _)
      iexact Hscr
    isplitl [Hts]; · iexact Hts
    isplitl [Hoc]; · iexact Hoc
    isplitl [Hcr Har]
    · isplitl [Hcr] <;> iassumption
    iexact Has
  isplitr; · iexact Hr
  isplitl [Has0] <;> iassumption

/-- What the body ends with is what the launch expects back, the two unused cells closed. -/
theorem body_leave (K : Dev nD × CIx → ℕ) (c : Dev nD) :
    iprop(bodyEnd m ρ K c ∗ records m ρ K ∗ spare c) ⊢ |={Set.univ}=> bodyPost m ρ c := by
  unfold bodyEnd BackSt backGot gotAll recvGot xPts wPts bodyPost after spare
  rw [done_all, bigSep_sep', bigSep_sep', cells_split c fun g => semVal g 0]
  iintro ⟨⟨⟨-, ⟨%W, HO⟩, -, Hss, Hzs⟩, ⟨Hos, Hzr⟩, Hsc, Hoc, Hzb, Hw, Hx⟩, #Hr, Has0, Harc⟩
  imod (Rounds.cell_close ER (ringRd m ρ) (Set.mem_univ (K (c, .inr (.inl 0)))) (fun h => h) (R := 0) (duties_send_zero m ρ c)) $$ [Has0] with Hz0
  · isplitr; · iapply (records_inv m ρ K (c, .inr (.inl 0))); iexact Hr
    iexact Has0
  imod (Rounds.cell_close ER (ringRd m ρ) (Set.mem_univ (K (c, .inr (.inr c)))) (fun h => h) (R := 0) (duties_recv_self m ρ c)) $$ [Harc] with Hzc
  · isplitr; · iapply (records_inv m ρ K (c, .inr (.inr c))); iexact Hr
    iexact Harc
  imodintro
  unfold Dat.owesAt Pipeline.owesWithin
  rw [show (dats m ρ 0 c).owed t0_0.succ = 0 from rfl, sBlks_to]
  isplitl [Hss Hzs Hzr Hsc Hzb Hz0 Hzc]
  · isplitl [Hss Hsc]
    · isplitl [Hsc] <;> iassumption
    isplitl [Hzb]; · iexact Hzb
    isplitl [Hz0 Hzs]
    · isplitl [Hz0] <;> iassumption
    isplitl [Hzc] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  rw [oBlks_fr]
  isplitl [Hoc] <;> iassumption

/-- The body meets the launch's obligation on every device. -/
theorem body_obligation (c : Dev nD) : BodyObligation (dats (F := F) m ρ 0 c) (defs₀ (F := F)) 𝒱₀ () Set.univ := fun t => by
  rw [fin_N0 t, bigSep_W0, bigSep_W0]
  simp only [owns_stg]
  show bodyPre m ρ c ⊢ runs c (cc0_body xM (Memref.isWhole_whole _) wM (Memref.isWhole_whole _) oM (Memref.isWhole_whole _)
      scM (Memref.isWhole_whole _) cc0_scratch1 cc0_scratch2) (fun _ => bodyPost m ρ c)
  refine (body_enter m ρ c).trans ?_
  iintro ⟨%K, %f, H⟩
  iapply (body_runs m ρ K c f (Q := fun _ => bodyPost m ρ c) (body_leave m ρ K c))
  iexact H

/-! ## Dealing out cells and duties -/

theorem ownSemFacts : Pipeline.OwnSemFacts cfg0.spec osem := by decide

theorem share_eq (c : Dev nD) (w : Fin cfg0.W) : (dats m ρ 0 c).share w = fullShare := by unfold Dat.share; split <;> rfl

/-- The role of a cell tells which cell it is. -/
def cellRole : CIx → Role
  | .inl _ => .bar | .inr (.inl d) => .send d | .inr (.inr i) => .recv i
theorem role_csem (k : CIx) : role (csem k) = cellRole k := by
  rcases k with _ | d | i
  · rfl
  · exact role_send d
  · exact role_recv i
theorem cellRole_injective : Function.Injective cellRole := by
  rintro (_ | d | i) (_ | d' | i') h <;> first | rfl | (injection h with h; rw [h]) | cases h

theorem kcell_injective : Function.Injective (kcell : Dev nD × CIx → GSem nD τ sig) := by
  rintro ⟨c, k⟩ ⟨c', k'⟩ h
  have hc : c = c' := congrArg (fun g : GSem nD τ sig => g.1.1) h
  have hk : k = k' := cellRole_injective (by rw [← role_csem, ← role_csem]; exact congrArg (fun g : GSem nD τ sig => role g.2) h)
  rw [hc, hk]
/-- All cells of the exchange. -/
def ringCells : Finset (GSem nD τ sig) := Finset.univ.map ⟨kcell, kcell_injective⟩

/-- The duties, named by who pays: the `r`-th signal, the source end and the landing end of the `r`-th transfer. -/
abbrev TIx : Type := Fin 15 ⊕ (Fin 15 ⊕ Fin 15)
def tokCell (c : Dev nD) : TIx → Dev nD × CIx
  | .inl r => (toD c r, .inl ()) | .inr (.inl r) => (c, .inr (.inl (sIx r))) | .inr (.inr r) => (toD c r, .inr (.inr c))
def tokOf (ct : Dev nD × TIx) : GSem nD τ sig × ℕ × Dev nD := (kcell (tokCell ct.1 ct.2), 0, ct.1)
theorem tokCell_injective (c : Dev nD) : Function.Injective (tokCell c) := by
  rintro (r | r | r) (r' | r' | r') h <;> unfold tokCell at h <;> simp only [Prod.mk.injEq, Sum.inl.injEq, Sum.inr.injEq, reduceCtorEq, and_false, and_true, true_and] at h
  · rw [toD_inj c h]
  · rw [Fin.succ_injective _ h]
  · rw [toD_inj c h]
theorem tokOf_injective : Function.Injective tokOf := by
  rintro ⟨c, t⟩ ⟨c', t'⟩ h
  have hc : c = c' := congrArg (fun x : GSem nD τ sig × ℕ × Dev nD => x.2.2) h
  subst hc
  exact Prod.ext rfl (tokCell_injective c (kcell_injective (congrArg Prod.fst h)))
def ringToks : Finset (GSem nD τ sig × ℕ × Dev nD) := Finset.univ.map ⟨tokOf, tokOf_injective⟩

/-- The pipeline's share of the launch resource and the exchange's. -/
def u₀ : UU := (initOf (Pipeline.cells cfgs cellOf_inj) (Pipeline.launchToks cfgs cellOf_inj), initOf ringCells ringToks)

/-- What the launch deals device `c`, -/
def G (c : Dev nD) : sProp 𝕄 :=
  iprop((bigSep Finset.univ fun k : CIx => roundState ER (ringRd m ρ) (kcell (c, k)) 0)
    ∗ (bigSep Finset.univ fun k : CIx => reached ER (kcell (c, k)) 0) ∗ linear c)
/-- and what the devices together make of it. -/
def G' (c : Dev nD) : sProp 𝕄 := iprop(∃ K, records m ρ K ∗ linear c)

theorem by_device (Φ : GSem nD τ sig → sProp 𝕄) :
    bigSep ringCells Φ = bigSep Finset.univ fun c : Dev nD => bigSep Finset.univ fun k : CIx => Φ (kcell (c, k)) := by
  unfold ringCells; rw [bigSep_map, bigSep_univ_prod]; rfl
theorem toks_by_payer : bigSep ringToks (fun x => (dutyTok ER x.1 x.2.1 x.2.2 : sProp 𝕄)) = bigSep Finset.univ fun c : Dev nD => payToks c := by
  unfold ringToks; rw [bigSep_map, bigSep_univ_prod]
  refine bigSep_congr fun c _ => ?_
  unfold payToks sendToks
  rw [bigSep_univ_sum, bigSep_univ_sum, bigSep_sep']; rfl

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst := (Entails.of_eq (by_device fun g => roundState ER (ringRd m ρ) g 0)) $$ Hst
  ihave Hat := (Entails.of_eq (by_device fun g => atPos ER g 0 ∅ 0)) $$ Hat
  ihave Hr := (Entails.of_eq (by_device fun g => reached ER g 0)) $$ Hr
  ihave Htok := (Entails.of_eq toks_by_payer) $$ Htok
  unfold G linear; simp only [bigSep_sep']
  isplitl [Hst]; · iexact Hst
  isplitl [Hr]; · iexact Hr
  isplitl [Hat] <;> iassumption

/-- The exchange's semaphores of one device: the barrier semaphore and the kernel's own thirty-two. -/
theorem sems_eq (c : Dev nD) :
    (bigSep Finset.univ fun k : CIx => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_of_subsingleton ()]
  unfold unscopedSems0 Pipeline.ownSems0; rw [bigSep_eq_bigSepL_of_eq [SemLoc.reg barS] (by decide) (by decide)]; rfl

/-- Each device sets up its cells' invariants; -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (ringRd m ρ) κ (kcell (c, k))))
          ∗ (bigSep Finset.univ fun k : CIx => reached ER (kcell (c, k)) 0) ∗ linear c) := by
  have hcells : iprop((bigSep Finset.univ fun k : CIx => semVal (kcell (c, k)) 0) ∗ bigSep Finset.univ fun k : CIx => roundState ER (ringRd m ρ) (kcell (c, k)) 0)
      ⊢ (|={Set.univ}=> bigSep Finset.univ fun k => iprop(∃ κ : ℕ, cellInv ER (ringRd m ρ) κ (kcell (c, k))) : sProp 𝕄) := by
    rw [← bigSep_sep']
    exact (bigSep_mono fun k _ => (Rounds.body_intro ER (ringRd m ρ) (kcell (c, k))).trans inv_alloc).trans (bigSep_fupd _ _)
  unfold G
  rw [sems_eq] at hcells
  iintro ⟨Hos, Hus, Hst, Hrest⟩
  imod hcells $$ [Hos Hus Hst] with Hinv
  · isplitr [Hst]
    · isplitl [Hus] <;> iassumption
    iexact Hst
  imodintro
  isplitl [Hinv]; · iexact Hinv
  iexact Hrest

/-- the names of all invariants are then known to all. -/
theorem regroup :
    (bigSep Finset.univ fun c : Dev nD => iprop((bigSep Finset.univ fun k : CIx => iprop(∃ κ : ℕ, cellInv ER (ringRd m ρ) κ (kcell (c, k))))
          ∗ (bigSep Finset.univ fun k : CIx => reached ER (kcell (c, k)) 0) ∗ linear c) : sProp 𝕄)
      ⊢ bigSep Finset.univ (G' m ρ) := by
  rw [bigSep_sep', bigSep_sep', ← bigSep_univ_prod (fun ck : Dev nD × CIx => iprop(∃ κ : ℕ, cellInv ER (ringRd m ρ) κ (kcell ck))),
    ← bigSep_univ_prod (fun ck : Dev nD × CIx => (reached ER (kcell ck) 0 : sProp 𝕄))]
  iintro ⟨HI, #HR, Hlin⟩
  ihave HK := (BI.bigSep_exists_pi Finset.univ (fun (ck : Dev nD × CIx) (κ : ℕ) => (cellInv ER (ringRd m ρ) κ (kcell ck) : sProp 𝕄))) $$ HI
  icases HK with ⟨%K, #HI⟩
  iapply (BI.bigSep_with_persistent (R := records m ρ K) (Φ := fun c => linear c) fun c _ => by
    unfold G'; iintro H; iexists K; iexact H)
  isplitr
  · unfold records; isplitl; · iexact HI
    iexact HR
  · iexact Hlin

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit each device starts with -/

/-- A tally over fifteen cells, read at one cell, counts those that are it. -/
theorem sum_tally_apply (cell : Fin 15 → GSem nD τ sig) (k : ℕ) (g : GSem nD τ sig) :
    (∑ r : Fin 15, (tallyAt (cell r) () k : CellTallies nD τ sig Unit)) g () = ∑ r : Fin 15, if g = cell r then k else 0 := by
  rw [Finset.sum_apply, Finsupp.finset_sum_apply]
  exact Finset.sum_congr rfl fun r _ => by rw [tallyAt_apply]; simp only [and_true]

theorem owed_start (d : Dev nD) (g : GSem nD τ sig) :
    owed d 0 0 g () = (∑ r : Fin 15, if g = recvCell (toD d r) d then N else 0) + ∑ r : Fin 15, if g = barCell (toD d r) then 1 else 0 := by
  unfold owed
  rw [from_zero, Pi.add_apply, Finsupp.add_apply, sum_tally_apply fun r => recvCell (toD d r) d, sum_tally_apply fun r => barCell (toD d r)]

theorem cell_eq_iff {c c' : Dev nD} {k k' : CIx} : Iff (kcell (c, k) = kcell (c', k')) (c = c' ∧ k = k') :=
  ⟨fun h => Prod.mk.inj (kcell_injective h), fun h => by rw [h.1, h.2]⟩

/-- Fifteen signals are owed to `c`'s barrier. -/
theorem owed_bar_total (c : Dev nD) : ∑ d : Dev nD, owed d 0 0 (barCell c) () = 15 := by
  have h (d : Dev nD) : owed d 0 0 (barCell c) () = ∑ r : Fin 15, if c = toD d r then 1 else 0 := by
    rw [owed_start, Finset.sum_eq_zero (fun r _ => if_neg fun h => by
      cases (cell_eq_iff (k := .inl ()) (k' := .inr (.inr d)).1 h).2), Nat.zero_add]
    exact Finset.sum_congr rfl fun r _ => if_congr ((cell_eq_iff (k := .inl ()) (k' := .inl ())).trans (and_iff_left rfl)) rfl rfl
  rw [Finset.sum_congr rfl fun d _ => h d]
  clear h; revert c; decide +kernel

/-- One transfer's worth is owed to `c`'s receive cell of each device before it. -/
theorem owed_recv_total (c : Dev nD) (s : Fin 15) : ∑ d : Dev nD, owed d 0 0 (recvCell c (frD c s)) () = N := by
  have h (d : Dev nD) : owed d 0 0 (recvCell c (frD c s)) () = if d = frD c s then N else 0 := by
    have h0 : (∑ r : Fin 15, if recvCell c (frD c s) = barCell (toD d r) then 1 else 0) = 0 := Finset.sum_eq_zero fun r _ => if_neg fun h => by
      cases (cell_eq_iff (k := .inr (.inr (frD c s))) (k' := .inl ()).1 h).2
    rw [owed_start, h0, Nat.add_zero]
    have hi (r : Fin 15) : Iff (recvCell c (frD c s) = recvCell (toD d r) d) (d = frD c s ∧ r = s) := by
      refine (cell_eq_iff (k := .inr (.inr (frD c s))) (k' := .inr (.inr d))).trans ⟨fun ⟨h1, h2⟩ => ?_, fun ⟨h1, h2⟩ => ?_⟩
      · have hd : d = frD c s := by exact (Sum.inr.inj (Sum.inr.inj h2)).symm
        subst hd
        exact ⟨rfl, toD_inj (frD c s) (h1.symm.trans (toD_frD c s).symm)⟩
      · subst h1 h2; exact ⟨(toD_frD c r).symm, rfl⟩
    rw [Finset.sum_congr rfl fun r _ => if_congr (hi r) rfl rfl]
    by_cases hd : d = frD c s
    · simp only [hd, true_and]; rw [Finset.sum_ite_eq' Finset.univ s fun _ => N, if_pos (Finset.mem_univ _), if_pos trivial]
    · simp only [hd, false_and]; exact Finset.sum_const_zero
  rw [Finset.sum_congr rfl fun d _ => h d, Finset.sum_ite_eq' Finset.univ (frD c s) fun _ => N, if_pos (Finset.mem_univ _)]

/-- The launch's credit at one cell is what all devices owe it. -/
theorem launch_at (g : GSem nD τ sig) (k : ℕ) (h : ∑ d : Dev nD, owed d 0 0 g () = k) :
    tallyOn g (launchCredit (Pipeline.owing fun c => owed c 0 0) 0 g) = (tallyAt g () k : CellTallies nD τ sig Unit) := by
  unfold tallyAt; refine congrArg _ (Finsupp.ext fun u => ?_); cases u
  rw [Pipeline.launchCredit_owing, Finsupp.single_eq_same, h]

theorem creds (c : Dev nD) :
    (Pipeline.launchCred (fun c => owed c 0 0) c : sProp 𝕄)
      ⊢ iprop(cred (tallyAt (barCell c) () 15) ∗ bigSep Finset.univ fun r : Fin 15 => cred (tallyAt (recvCell c (frD c r)) () N)) := by
  unfold Pipeline.launchCred
  rw [bigSep_univ_at _ (SemLoc.reg barS), launch_at _ _ (owed_bar_total c)]
  refine sep_mono_right ?_
  have hinj : Function.Injective fun r : Fin 15 => (SemLoc.dma (recvQ (frD c r)) : SemLoc sig) := fun r s h =>
    frD_inj c (by have := congrArg role h; simp only [role_recv] at this; injection this)
  rw [← bigSep_congr (s := Finset.univ) fun (r : Fin 15) _ => congrArg cred (launch_at (recvCell c (frD c r)) N (owed_recv_total c r)),
    ← bigSep_image_of_injOn hinj.injOn fun sm => (cred (tallyOn ((c : Thread nD τ), sm) (launchCredit (Pipeline.owing fun c => owed c 0 0) 0 ((c : Thread nD τ), sm))) : sProp 𝕄)]
  refine bigSep_subset fun sm hsm => ?_
  obtain ⟨r, -, rfl⟩ := Finset.mem_image.1 hsm
  exact Finset.mem_erase.2 ⟨(fun h => nomatch h), Finset.mem_univ _⟩

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun c => owed c 0 0) c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs]; · iexact Hs
  iexact Hr

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after m ρ c from rfl, scopedRest0_eq]
  unfold after
  rw [sems_eq]
  iintro ⟨Hr, Hu, Hos⟩
  isplitl [Hu]; · iexact Hu
  isplitl [Hos]; · iexact Hos
  iexists (scrAt m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents at the end. -/
def finalA (c : Dev nD) (w : Fin cfg0.W) : Buf (Elt F) ((cfg0.win w).arr.view.loc (c : Thread nD τ)) := (dats m ρ 0 c).arrAt w cfg0.N

set_option maxRecDepth 8000 in
/-- From any memory with zero counters, every weakly fair execution on the sixteen devices terminates, and at the end each
    array holds its final contents and every counter is zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owed c 0 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- The blocks of the two arguments and of the result are the whole arrays. -/
theorem read_x (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
theorem read_w (c : Dev nD) (f : Buf (Elt F) ((c : Thread nD τ).loc main_arg1)) : (win0_1.blk t0_0).view.read (Elt F) f = f :=
  Memref.read_access_unit_zero (Elt F) main_arg1
    (show (fun a => (win0_1.index t0_0) a * main_arg1.ty.shape.size a) = fun _ => 0 from funext fun a => by fin_cases a <;> decide)
    (fun a => by fin_cases a <;> decide) f
theorem read_out (c : Dev nD) (f : Buf (Elt F) ((c : Thread nD τ).loc main_v1)) : (win0_2.blk t0_0).view.read (Elt F) f = f :=
  Memref.read_access_unit_zero (Elt F) main_v1
    (show (fun a => (win0_2.index t0_0) a * main_v1.ty.shape.size a) = fun _ => 0 from funext fun a => by fin_cases a <;> decide)
    (fun a => by fin_cases a <;> decide) f

/-- The staged arguments are the arguments. -/
theorem xstg_eq (c : Dev nD) : xstg m ρ c = m ((c : Thread nD τ).loc main_arg0) := read_x c _
theorem wstg_eq (c : Dev nD) : wstg m ρ c = m ((c : Thread nD τ).loc main_arg1) := read_w c _

/-- The result array ends at the stacked slices. -/
theorem finalA_out (c : Dev nD) : finalA m ρ c (2 : Fin 3) = outAt m ρ c := by
  have hw : ((cfg0.win 2).blk t0_0).view.read (Elt F) ((dats m ρ 0 c).arrAt 2 cfg0.N) = (dats m ρ 0 c).flushed 2 t0_0 := by
    rw [show cfg0.N = t0_0.val + 1 from rfl, (dats m ρ 0 c).arrAt_succ (2 : Fin 3) t0_0, flush0_2, if_pos rfl]
    exact View.read_write_univ _ _
  exact (read_out c _).symm.trans (hw.trans (funext fun _ => rfl))

/-- The run ends with the arguments as they were, the result at the stacked slices, and every semaphore at zero. -/
theorem run_arrays : θ_run defs (onTc (τ := τ) (main (F := F))) ⟨m, fun _ => 0, ρ⟩
    (fun r => (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 2).trans (finalA_out m ρ c),
    (h.1 c 0).trans ((dats m ρ 0 c).arrAt_in (0 : Fin 3) rfl _), (h.1 c 1).trans ((dats m ρ 0 c).arrAt_in (1 : Fin 3) rfl _)⟩, h.2⟩) (run_main m ρ)

/-- The run leaves the arguments as they were and every semaphore at zero. -/
theorem run_quiet : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_arrays m ρ)

end Cert.KernelIdeal.Exchange

end
-- ==== Proof.Silu.lean ====
/-
# The gated product

The two programs' epilogues over the extended reals: the kernel multiplies an entry by its logistic, the reference
divides it by one plus the exponential of the negated, clipped entry. Where the entry lies between the clip's ends the
two agree.
-/
module

public import Idealize.ShloMosaic.Lib.IdealHost
public import Idealize.ShloMosaic.Lib.MatmulPlain
public import Idealize.ShloMosaic.Lib.StackMember

@[expose] public section

noncomputable section

namespace Cert.Silu

open Idealize.ShloMosaic Idealize.ShloMosaic.ValueIdx
open scoped BigOperators

/-- Entry `(r, q)` of the product of `x` and `w`. -/
def entry {M K N : ℕ} (x : (⟨2, ![M, K]⟩ : Shape).Idx → EReal) (w : (⟨2, ![K, N]⟩ : Shape).Idx → EReal) (r : Fin M) (q : Fin N) : EReal :=
  ∑ k : Fin K, x (ix2 r k) * w (ix2 k q)

/-- The kernel's epilogue and the reference's. -/
def gated (y : EReal) : EReal := y * Ideal.logistic y
def clipped (y : EReal) : EReal := Ideal.div y (1 + Ideal.exp (-(min ((60 : ℝ) : EReal) (max ((-60 : ℝ) : EReal) y))))

/-- The two epilogues agree between the clip's ends. -/
theorem gated_eq_clipped (y : EReal) (lo : ((-60 : ℝ) : EReal) ≤ y) (hi : y ≤ ((60 : ℝ) : EReal)) : gated y = clipped y := by
  unfold gated clipped
  rw [max_eq_right lo, min_eq_right hi]
  lift y to ℝ using ⟨fun h => absurd (h ▸ hi) (not_le.mpr (EReal.coe_lt_top _)), fun h => absurd (h ▸ lo) (not_le.mpr (EReal.bot_lt_coe _))⟩
  have hpos : (1 + Real.exp (-y) : ℝ) ≠ 0 := by positivity
  have hd : (1 : EReal) + Ideal.exp (-(y : EReal)) = ((1 + Real.exp (-y) : ℝ) : EReal) := by
    rw [← EReal.coe_neg, Ideal.exp_coe, EReal.coe_add, EReal.coe_one]
  rw [Ideal.logistic_coe, hd, Ideal.div_coe hpos, one_div]

/-- The words of the clip's ends. -/
theorem word_neg_sixty : Ideal.ofBits .f32 0xC2700000#32 = ((-60 : ℝ) : EReal) := by
  simp [Ideal.ofBits, Ideal.ieee, -EReal.coe_mul, -EReal.coe_neg]; norm_num
theorem word_sixty : Ideal.ofBits .f32 0x42700000#32 = ((60 : ℝ) : EReal) := by
  simp [Ideal.ofBits, Ideal.ieee, -EReal.coe_mul, -EReal.coe_neg]; norm_num

end Cert.Silu

end
-- ==== Proof.KernelIdealValue.lean ====
/-
# The values

Over the extended reals, what the kernel leaves in every device's result is that device's block of columns of the
reference's result, when no entry of any device's product lies outside the reference's clip.
-/
module

public import proofs.«01_k».proof.Proof.KernelIdealRun
public import proofs.«01_k».proof.Proof.Silu
public import proofs.«01_k».proof.Proof.Gen.ReferenceIdeal.Run
public import proofs.«01_k».proof.Proof.Gen.Pre_unclipped_KernelIdeal
public import Idealize.ShloMosaic.Lib.Layout
public import Idealize.ShloMosaic.Lib.Quiescent

@[expose] public section

noncomputable section

namespace Cert.KernelIdeal.Value

open Idealize.ShloMosaic Idealize.ShloMosaic.TcCoe Idealize.ShloMosaic.ValueIdx Idealize.SL.Sem
open Cert.Silu
open Cert.KernelIdeal Cert.KernelIdeal.Gen

/-- An entry of the rows a device computes is the gated entry of its product. -/
theorem rows_apply (x : FVec Ideal S64x1024 .bf16) (w : FVec Ideal S1024x1024 .bf16) (r : Fin 64) (q : Fin 1024) :
    k0_pay1 (F := Ideal) x w (ix2 r q) = gated (entry x w r q) := by
  have hy : matmul (F := Ideal) (φ₁ := .bf16) (φ₂ := .bf16) dot_S64x1024_S1024x1024_S64x1024_1_0_0_1_n_n none x w (constant S64x1024 .f32 0x00000000#32) (ix2 r q) = entry x w r q := by
    refine (Ideal.matmul_plain_apply none x w _ r q).trans ?_
    show Ideal.ofBits .f32 0x00000000#32 + _ = _
    rw [Ideal.ofBits_zero_f32, zero_add]; rfl
  unfold k0_pay1
  rw [shapeCast_self, shapeCast_self]
  show matmul (F := Ideal) (φ₁ := .bf16) (φ₂ := .bf16) _ none x w _ (ix2 r q) * Ideal.logistic (matmul (F := Ideal) (φ₁ := .bf16) (φ₂ := .bf16) _ none x w _ (ix2 r q)) = _
  rw [hy]; rfl

/-- A conjunction of two comparison bits that is one has both comparisons true. -/
theorem both_true {p q : Prop} [Decidable p] [Decidable q] (h : BitVec.ofBool (decide p) &&& BitVec.ofBool (decide q) = 1#1) : p ∧ q := by
  by_cases hp : p <;> by_cases hq : q <;> simp [hp, hq] at h ⊢

/-- The precondition says every entry of the device's product lies between the clip's ends. -/
theorem unclipped_apply (x : FVec Ideal S64x1024 .bf16) (w : FVec Ideal S1024x1024 .bf16)
    (h : Cert.Pre_unclipped_KernelIdeal.fn (F := Ideal) x w = fun _ => 1#1) (r : Fin 64) (q : Fin 1024) :
    ((-60 : ℝ) : EReal) ≤ entry x w r q ∧ entry x w r q ≤ ((60 : ℝ) : EReal) := by
  have hy : Host.dotGeneral (F := Ideal) (DotDims.plain 64 1024 1024) none (φ₁ := .f32) (φ₂ := .f32) x w (ix2 r q) = entry x w r q :=
    StackMember.dotGeneral_plain_apply none x w r q
  have hb := congrFun h (ix2 r q)
  unfold Cert.Pre_unclipped_KernelIdeal.fn at hb
  have hb' : (Ideal.cmp .oge (Host.dotGeneral (F := Ideal) (DotDims.plain 64 1024 1024) none (φ₁ := .f32) (φ₂ := .f32) x w (ix2 r q)) (Ideal.ofBits .f32 0xC2700000#32))
      &&& (Ideal.cmp .ole (Host.dotGeneral (F := Ideal) (DotDims.plain 64 1024 1024) none (φ₁ := .f32) (φ₂ := .f32) x w (ix2 r q)) (Ideal.ofBits .f32 0x42700000#32)) = 1#1 := hb
  rw [hy, word_neg_sixty, word_sixty] at hb'
  exact both_true hb'

/-- The reference's result as a function of its two arguments. -/
def refOut (X W : FVec Ideal S1024x1024 .bf16) : FVec Ideal S1024x1024 .bf16 := fun i => clipped (entry X W (i 0) (i 1))

/-- The reference runs to its result. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
        r.2.mem ((c.tc : Thread Cert.ReferenceIdeal.nD Cert.ReferenceIdeal.τ).loc Cert.ReferenceIdeal.main_v9)
          = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine (θ_run _ _ _).mono (fun r h c => ⟨(h c).1.trans (funext fun i => ?_), (h c).2⟩) (Cert.ReferenceIdeal.Value.run m g)
  let X : FVec Ideal S1024x1024 .f32 := m ((c.tc : Thread Cert.ReferenceIdeal.nD Cert.ReferenceIdeal.τ).loc Cert.ReferenceIdeal.main_arg0)
  let W : FVec Ideal S1024x1024 .f32 := m ((c.tc : Thread Cert.ReferenceIdeal.nD Cert.ReferenceIdeal.τ).loc Cert.ReferenceIdeal.main_arg1)
  have hy : Host.dotGeneral (DotDims.plain 1024 1024 1024) none X W i = entry X W (i 0) (i 1) :=
    (congrArg _ (eq_ix2 i)).trans (StackMember.dotGeneral_plain_apply none X W (i 0) (i 1))
  show Ideal.div (Host.dotGeneral (F := Ideal) (DotDims.plain 1024 1024 1024) none (φ₁ := .f32) (φ₂ := .f32) X W i)
    (Ideal.ofBits .f32 0x3F800000#32 + Ideal.exp (-(min (Ideal.ofBits .f32 0x42700000#32) (max (Ideal.ofBits .f32 0xC2700000#32)
      (Host.dotGeneral (F := Ideal) (DotDims.plain 1024 1024 1024) none (φ₁ := .f32) (φ₂ := .f32) X W i))))) = _
  rw [hy, word_neg_sixty, word_sixty, Ideal.ofBits_one_f32]; rfl

/-- The reference leaves its arguments as they were; it has no semaphores. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems rfl r.2⟩) (reference_runs m g)

variable (m : (ℓ : Loc nD τ sig) → Buf (Elt Ideal) ℓ) (ρ : Dev nD → PrngReg)

/-- Every device's result is its block of columns of the reference's. -/
theorem out_block (X W : FVec Ideal S1024x1024 .bf16)
    (hX : ∀ c : Dev nD, m ((c.tc : Thread nD τ).loc main_arg0) = Layout.block ⟨2, ![64, 1024]⟩ ⟨2, ![1024, 1024]⟩ 0 16 c X)
    (hW : ∀ c : Dev nD, m ((c.tc : Thread nD τ).loc main_arg1) = W)
    (hp : ∀ c : Dev nD, Cert.Pre_unclipped_KernelIdeal.fn (F := Ideal) (m ((c.tc : Thread nD τ).loc main_arg0)) (m ((c.tc : Thread nD τ).loc main_arg1)) = fun _ => 1#1)
    (c : Dev nD) : Exchange.outAt m ρ c = Layout.block ⟨2, ![1024, 64]⟩ ⟨2, ![1024, 1024]⟩ 1 16 c (refOut X W) := by
  funext i
  have h0 : (i 0).val < 1024 := (i 0).isLt
  have h1 : (i 1).val < 64 := (i 1).isLt
  have hc : c.val < 16 := c.isLt
  let d : Dev nD := ⟨(i 0).val / 64, by show _ < 16; omega⟩
  let r : Fin 64 := ⟨(i 0).val % 64, Nat.mod_lt _ (by decide)⟩
  let q : Fin 1024 := ⟨64 * c.val + (i 1).val, by omega⟩
  have hk : Exchange.outAt m ρ c i = gated (entry (m ((d.tc : Thread nD τ).loc main_arg0)) (m ((d.tc : Thread nD τ).loc main_arg1)) r q) := by
    rw [← rows_apply, ← Exchange.xstg_eq m ρ d, ← Exchange.wstg_eq m ρ d]
    show Exchange.rowsAt m ρ d _ = Exchange.rowsAt m ρ d _
    congr 1; funext a; match a with | ⟨0, _⟩ => rfl | ⟨1, _⟩ => rfl
  have hr : Layout.block ⟨2, ![1024, 64]⟩ ⟨2, ![1024, 1024]⟩ 1 16 c (refOut X W) (by decide) i = clipped (entry X W (i 0) q) := by
    show clipped (entry X W ⟨(i 0).val, _⟩ ⟨c.val * 64 + (i 1).val, _⟩) = _
    congr 2; exact Fin.ext (by show c.val * 64 + (i 1).val = 64 * c.val + (i 1).val; omega)
  have he : entry (m ((d.tc : Thread nD τ).loc main_arg0)) (m ((d.tc : Thread nD τ).loc main_arg1)) r q = entry X W (i 0) q := by
    rw [hX d, hW d]
    refine Finset.sum_congr rfl fun k _ => ?_
    congr 1
    show X _ = X _
    congr 1; funext a
    match a with
    | ⟨0, _⟩ => exact Fin.ext (by show (i 0).val / 64 * 64 + (i 0).val % 64 = (i 0).val; omega)
    | ⟨1, _⟩ => rfl
  obtain ⟨lo, hi⟩ := unclipped_apply _ _ (hp d) r q
  rw [hk, hr, gated_eq_clipped _ lo hi, he]

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_unclipped_KernelIdeal
public import proofs.«01_k».proof.Proof.Gen.Pre_unclipped_ReferenceIdeal
public import proofs.«01_k».proof.Proof.KernelRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The claims: every run ends quietly with its arguments as they were, and over the extended reals the kernel's
    results are the blocks of the reference's. -/
theorem claim : Cert.Claim := ⟨Cert.Kernel.Gen.facts, Cert.KernelIdeal.Gen.facts, Cert.ReferenceIdeal.Gen.facts, Cert.Pre_unclipped_KernelIdeal.Gen.facts, Cert.Pre_unclipped_ReferenceIdeal.Gen.facts,
  fun m g _ => Cert.Kernel.Exchange.run_quiet m g,
  fun m g _ => Cert.KernelIdeal.Exchange.run_quiet m g,
  fun m g _ => Cert.KernelIdeal.Exchange.run_quiet m g,
  fun m g _ => Cert.KernelIdeal.Value.reference_quiet m g,
  fun m g _ => Cert.KernelIdeal.Value.reference_quiet m g,
  trivial,
  fun m g m' g' hp hm => ⟨Cert.KernelIdeal.Value.refOut _ _,
    (θ_run _ _ _).mono (fun _ h c => ⟨(h.1 c).1.trans (Cert.KernelIdeal.Value.out_block m g _ _ (fun d => (hm d).1) (fun d => (hm d).2) hp c), (h.1 c).2⟩)
      (Cert.KernelIdeal.Exchange.run_arrays m g),
    (θ_run _ _ _).mono (fun _ h => h 0) (Cert.KernelIdeal.Value.reference_runs m' g')⟩⟩

end Cert.Proof

end
